-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x1000 : Shape := ⟨2, ![512, 1000]⟩
abbrev S1000x128 : Shape := ⟨2, ![1000, 128]⟩
abbrev S_ : Shape := ⟨0, ![]⟩
abbrev S1x128 : Shape := ⟨2, ![1, 128]⟩
abbrev S512x128 : Shape := ⟨2, ![512, 128]⟩
abbrev S512x1000x128 : Shape := ⟨3, ![512, 1000, 128]⟩
abbrev S16x128 : Shape := ⟨2, ![16, 128]⟩
abbrev S3x16x1000x128 : Shape := ⟨4, ![3, 16, 1000, 128]⟩
abbrev S3 : Shape := ⟨1, ![3]⟩
abbrev S16x1000 : Shape := ⟨2, ![16, 1000]⟩
abbrev S1 : Shape := ⟨1, ![1]⟩
abbrev S16x1000x128 : Shape := ⟨3, ![16, 1000, 128]⟩
abbrev S1x16x1000x128 : Shape := ⟨4, ![1, 16, 1000, 128]⟩
abbrev S8x1000 : Shape := ⟨2, ![8, 1000]⟩
abbrev S8x8 : Shape := ⟨2, ![8, 8]⟩
abbrev S8x8x1 : Shape := ⟨3, ![8, 8, 1]⟩
abbrev S8x128 : Shape := ⟨2, ![8, 128]⟩
abbrev S1x8x128 : Shape := ⟨3, ![1, 8, 128]⟩
abbrev S8x8x128 : Shape := ⟨3, ![8, 8, 128]⟩
abbrev S1x8x8x128 : Shape := ⟨4, ![1, 8, 8, 128]⟩
abbrev S1x1000 : Shape := ⟨2, ![1, 1000]⟩
abbrev S1x1x1000x128 : Shape := ⟨4, ![1, 1, 1000, 128]⟩

abbrev nBuf : Space → Nat
  | .hbm => 6
  | .vmem => 6
  | .smem => 0
  | _ => 0

abbrev bufTy : (tb : Table) → Fin (tcTables nBuf tb) → BufTy
  | .hbm, ⟨0, _⟩ => ⟨S512x1000, .f32⟩
  | .hbm, ⟨1, _⟩ => ⟨S1000x128, .f32⟩
  | .hbm, ⟨2, _⟩ => ⟨S_, .bf16⟩
  | .hbm, ⟨3, _⟩ => ⟨S1x128, .bf16⟩
  | .hbm, ⟨4, _⟩ => ⟨S512x128, .f32⟩
  | .hbm, ⟨5, _⟩ => ⟨S512x1000x128, .f32⟩
  | .local _ .vmem, ⟨0, _⟩ => ⟨S512x1000, .f32⟩
  | .local _ .vmem, ⟨1, _⟩ => ⟨S1x128, .bf16⟩
  | .local _ .vmem, ⟨2, _⟩ => ⟨S1000x128, .f32⟩
  | .local _ .vmem, ⟨3, _⟩ => ⟨S16x128, .f32⟩
  | .local _ .vmem, ⟨4, _⟩ => ⟨S16x128, .f32⟩
  | .local _ .vmem, ⟨5, _⟩ => ⟨S3x16x1000x128, .f32⟩
  | _, _ => ⟨S512x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let c16_i32 : BitVec 32 := 16#32
  let v4 : BitVec 32 := Scalar.muli arg0 c16_i32
  let v5 : Index := Scalar.indexCast v4
  let c0_3 : Index := 0#32
  ![v5.toNat, 0]
def k0_cond1 (i : grid0.Coords) : BitVec 1 :=
  let arg0 : BitVec 32 := BitVec.ofNat 32 (i 0).val
  let c3_i32_4 : BitVec 32 := 3#32
  let v7 : BitVec 1 := Scalar.cmpi .sge arg0 c3_i32_4
  let v8 : BitVec 32 := Scalar.extui v7
  let c0_i32 : BitVec 32 := 0#32
  let v9 : BitVec 1 := Scalar.cmpi .ne v8 c0_i32
  v9

def k0_off2 (i : grid0.Coords) : Fin 1 → Nat :=
  let arg0 : BitVec 32 := BitVec.ofNat 32 (i 0).val
  let c3_i32 : BitVec 32 := 3#32
  let v0 : BitVec 32 := Scalar.remsi arg0 c3_i32
  ![v0.toNat]
def k0_off3 (i : grid0.Coords) : Fin 4 → Nat :=
  let arg0 : BitVec 32 := BitVec.ofNat 32 (i 0).val
  let c3_i32 : BitVec 32 := 3#32
  let v0 : BitVec 32 := Scalar.remsi arg0 c3_i32
  let c0_i32_293 : BitVec 32 := 0#32
  let c0_i32_294 : BitVec 32 := 0#32
  let c0_i32_295 : BitVec 32 := 0#32
  ![v0.toNat, 0, 0, 0]
def k0_off4 (i : grid0.Coords) : Fin 4 → Nat :=
  let arg0 : BitVec 32 := BitVec.ofNat 32 (i 0).val
  let c3_i32 : BitVec 32 := 3#32
  let v0 : BitVec 32 := Scalar.remsi arg0 c3_i32
  let v18 : Index := Scalar.indexCast v0
  let c0_5 : Index := 0#32
  let c0_6 : Index := 0#32
  let c0_7 : Index := 0#32
  ![v18.toNat, 0, 0, 0]
def k0_off5 (i : grid0.Coords) : Fin 4 → Nat :=
  let arg0 : BitVec 32 := BitVec.ofNat 32 (i 0).val
  let c3_i32 : BitVec 32 := 3#32
  let v0 : BitVec 32 := Scalar.remsi arg0 c3_i32
  let v29 : Index := Scalar.indexCast v0
  let c0_8 : Index := 0#32
  let c8 : Index := 8#32
  let c0_9 : Index := 0#32
  ![v29.toNat, 0, 8, 0]
def k0_off6 (i : grid0.Coords) : Fin 4 → Nat :=
  let arg0 : BitVec 32 := BitVec.ofNat 32 (i 0).val
  let c3_i32 : BitVec 32 := 3#32
  let v0 : BitVec 32 := Scalar.remsi arg0 c3_i32
  let v40 : Index := Scalar.indexCast v0
  let c0_10 : Index := 0#32
  let c16 : Index := 16#32
  let c0_11 : Index := 0#32
  ![v40.toNat, 0, 16, 0]
def k0_off7 (i : grid0.Coords) : Fin 4 → Nat :=
  let arg0 : BitVec 32 := BitVec.ofNat 32 (i 0).val
  let c3_i32 : BitVec 32 := 3#32
  let v0 : BitVec 32 := Scalar.remsi arg0 c3_i32
  let v51 : Index := Scalar.indexCast v0
  let c0_12 : Index := 0#32
  let c24 : Index := 24#32
  let c0_13 : Index := 0#32
  ![v51.toNat, 0, 24, 0]
def k0_off8 (i : grid0.Coords) : Fin 4 → Nat :=
  let arg0 : BitVec 32 := BitVec.ofNat 32 (i 0).val
  let c3_i32 : BitVec 32 := 3#32
  let v0 : BitVec 32 := Scalar.remsi arg0 c3_i32
  let v62 : Index := Scalar.indexCast v0
  let c0_14 : Index := 0#32
  let c32 : Index := 32#32
  let c0_15 : Index := 0#32
  ![v62.toNat, 0, 32, 0]
def k0_off9 (i : grid0.Coords) : Fin 4 → Nat :=
  let arg0 : BitVec 32 := BitVec.ofNat 32 (i 0).val
  let c3_i32 : BitVec 32 := 3#32
  let v0 : BitVec 32 := Scalar.remsi arg0 c3_i32
  let v73 : Index := Scalar.indexCast v0
  let c0_16 : Index := 0#32
  let c40 : Index := 40#32
  let c0_17 : Index := 0#32
  ![v73.toNat, 0, 40, 0]
def k0_off10 (i : grid0.Coords) : Fin 4 → Nat :=
  let arg0 : BitVec 32 := BitVec.ofNat 32 (i 0).val
  let c3_i32 : BitVec 32 := 3#32
  let v0 : BitVec 32 := Scalar.remsi arg0 c3_i32
  let v84 : Index := Scalar.indexCast v0
  let c0_18 : Index := 0#32
  let c48 : Index := 48#32
  let c0_19 : Index := 0#32
  ![v84.toNat, 0, 48, 0]
def k0_off11 (i : grid0.Coords) : Fin 4 → Nat :=
  let arg0 : BitVec 32 := BitVec.ofNat 32 (i 0).val
  let c3_i32 : BitVec 32 := 3#32
  let v0 : BitVec 32 := Scalar.remsi arg0 c3_i32
  let v95 : Index := Scalar.indexCast v0
  let c0_20 : Index := 0#32
  let c56 : Index := 56#32
  let c0_21 : Index := 0#32
  ![v95.toNat, 0, 56, 0]
def k0_off12 (i : grid0.Coords) : Fin 4 → Nat :=
  let arg0 : BitVec 32 := BitVec.ofNat 32 (i 0).val
  let c3_i32 : BitVec 32 := 3#32
  let v0 : BitVec 32 := Scalar.remsi arg0 c3_i32
  let v106 : Index := Scalar.indexCast v0
  let c0_22 : Index := 0#32
  let c64 : Index := 64#32
  let c0_23 : Index := 0#32
  ![v106.toNat, 0, 64, 0]
def k0_off13 (i : grid0.Coords) : Fin 4 → Nat :=
  let arg0 : BitVec 32 := BitVec.ofNat 32 (i 0).val
  let c3_i32 : BitVec 32 := 3#32
  let v0 : BitVec 32 := Scalar.remsi arg0 c3_i32
  let v117 : Index := Scalar.indexCast v0
  let c0_24 : Index := 0#32
  let c72 : Index := 72#32
  let c0_25 : Index := 0#32
  ![v117.toNat, 0, 72, 0]
def k0_off14 (i : grid0.Coords) : Fin 4 → Nat :=
  let arg0 : BitVec 32 := BitVec.ofNat 32 (i 0).val
  let c3_i32 : BitVec 32 := 3#32
  let v0 : BitVec 32 := Scalar.remsi arg0 c3_i32
  let v128 : Index := Scalar.indexCast v0
  let c0_26 : Index := 0#32
  let c80 : Index := 80#32
  let c0_27 : Index := 0#32
  ![v128.toNat, 0, 80, 0]
def k0_off15 (i : grid0.Coords) : Fin 4 → Nat :=
  let arg0 : BitVec 32 := BitVec.ofNat 32 (i 0).val
  let c3_i32 : BitVec 32 := 3#32
  let v0 : BitVec 32 := Scalar.remsi arg0 c3_i32
  let v139 : Index := Scalar.indexCast v0
  let c0_28 : Index := 0#32
  let c88 : Index := 88#32
  let c0_29 : Index := 0#32
  ![v139.toNat, 0, 88, 0]
def k0_off16 (i : grid0.Coords) : Fin 4 → Nat :=
  let arg0 : BitVec 32 := BitVec.ofNat 32 (i 0).val
  let c3_i32 : BitVec 32 := 3#32
  let v0 : BitVec 32 := Scalar.remsi arg0 c3_i32
  let v150 : Index := Scalar.indexCast v0
  let c0_30 : Index := 0#32
  let c96 : Index := 96#32
  let c0_31 : Index := 0#32
  ![v150.toNat, 0, 96, 0]
def k0_off17 (i : grid0.Coords) : Fin 4 → Nat :=
  let arg0 : BitVec 32 := BitVec.ofNat 32 (i 0).val
  let c3_i32 : BitVec 32 := 3#32
  let v0 : BitVec 32 := Scalar.remsi arg0 c3_i32
  let v161 : Index := Scalar.indexCast v0
  let c0_32 : Index := 0#32
  let c104 : Index := 104#32
  let c0_33 : Index := 0#32
  ![v161.toNat, 0, 104, 0]
def k0_off18 (i : grid0.Coords) : Fin 4 → Nat :=
  let arg0 : BitVec 32 := BitVec.ofNat 32 (i 0).val
  let c3_i32 : BitVec 32 := 3#32
  let v0 : BitVec 32 := Scalar.remsi arg0 c3_i32
  let v172 : Index := Scalar.indexCast v0
  let c0_34 : Index := 0#32
  let c112 : Index := 112#32
  let c0_35 : Index := 0#32
  ![v172.toNat, 0, 112, 0]
def k0_off19 (i : grid0.Coords) : Fin 4 → Nat :=
  let arg0 : BitVec 32 := BitVec.ofNat 32 (i 0).val
  let c3_i32 : BitVec 32 := 3#32
  let v0 : BitVec 32 := Scalar.remsi arg0 c3_i32
  let v183 : Index := Scalar.indexCast v0
  let c0_36 : Index := 0#32
  let c120 : Index := 120#32
  let c0_37 : Index := 0#32
  ![v183.toNat, 0, 120, 0]
def k0_off20 (i : grid0.Coords) : Fin 4 → Nat :=
  let arg0 : BitVec 32 := BitVec.ofNat 32 (i 0).val
  let c3_i32 : BitVec 32 := 3#32
  let v0 : BitVec 32 := Scalar.remsi arg0 c3_i32
  let v194 : Index := Scalar.indexCast v0
  let c0_38 : Index := 0#32
  let c128 : Index := 128#32
  let c0_39 : Index := 0#32
  ![v194.toNat, 0, 128, 0]
def k0_off21 (i : grid0.Coords) : Fin 4 → Nat :=
  let arg0 : BitVec 32 := BitVec.ofNat 32 (i 0).val
  let c3_i32 : BitVec 32 := 3#32
  let v0 : BitVec 32 := Scalar.remsi arg0 c3_i32
  let v205 : Index := Scalar.indexCast v0
  let c0_40 : Index := 0#32
  let c136 : Index := 136#32
  let c0_41 : Index := 0#32
  ![v205.toNat, 0, 136, 0]
def k0_off22 (i : grid0.Coords) : Fin 4 → Nat :=
  let arg0 : BitVec 32 := BitVec.ofNat 32 (i 0).val
  let c3_i32 : BitVec 32 := 3#32
  let v0 : BitVec 32 := Scalar.remsi arg0 c3_i32
  let v216 : Index := Scalar.indexCast v0
  let c0_42 : Index := 0#32
  let c144 : Index := 144#32
  let c0_43 : Index := 0#32
  ![v216.toNat, 0, 144, 0]
def k0_off23 (i : grid0.Coords) : Fin 4 → Nat :=
  let arg0 : BitVec 32 := BitVec.ofNat 32 (i 0).val
  let c3_i32 : BitVec 32 := 3#32
  let v0 : BitVec 32 := Scalar.remsi arg0 c3_i32
  let v227 : Index := Scalar.indexCast v0
  let c0_44 : Index := 0#32
  let c152 : Index := 152#32
  let c0_45 : Index := 0#32
  ![v227.toNat, 0, 152, 0]
def k0_off24 (i : grid0.Coords) : Fin 4 → Nat :=
  let arg0 : BitVec 32 := BitVec.ofNat 32 (i 0).val
  let c3_i32 : BitVec 32 := 3#32
  let v0 : BitVec 32 := Scalar.remsi arg0 c3_i32
  let v238 : Index := Scalar.indexCast v0
  let c0_46 : Index := 0#32
  let c160 : Index := 160#32
  let c0_47 : Index := 0#32
  ![v238.toNat, 0, 160, 0]
def k0_off25 (i : grid0.Coords) : Fin 4 → Nat :=
  let arg0 : BitVec 32 := BitVec.ofNat 32 (i 0).val
  let c3_i32 : BitVec 32 := 3#32
  let v0 : BitVec 32 := Scalar.remsi arg0 c3_i32
  let v249 : Index := Scalar.indexCast v0
  let c0_48 : Index := 0#32
  let c168 : Index := 168#32
  let c0_49 : Index := 0#32
  ![v249.toNat, 0, 168, 0]
def k0_off26 (i : grid0.Coords) : Fin 4 → Nat :=
  let arg0 : BitVec 32 := BitVec.ofNat 32 (i 0).val
  let c3_i32 : BitVec 32 := 3#32
  let v0 : BitVec 32 := Scalar.remsi arg0 c3_i32
  let v260 : Index := Scalar.indexCast v0
  let c0_50 : Index := 0#32
  let c176 : Index := 176#32
  let c0_51 : Index := 0#32
  ![v260.toNat, 0, 176, 0]
def k0_off27 (i : grid0.Coords) : Fin 4 → Nat :=
  let arg0 : BitVec 32 := BitVec.ofNat 32 (i 0).val
  let c3_i32 : BitVec 32 := 3#32
  let v0 : BitVec 32 := Scalar.remsi arg0 c3_i32
  let v271 : Index := Scalar.indexCast v0
  let c0_52 : Index := 0#32
  let c184 : Index := 184#32
  let c0_53 : Index := 0#32
  ![v271.toNat, 0, 184, 0]
def k0_off28 (i : grid0.Coords) : Fin 4 → Nat :=
  let arg0 : BitVec 32 := BitVec.ofNat 32 (i 0).val
  let c3_i32 : BitVec 32 := 3#32
  let v0 : BitVec 32 := Scalar.remsi arg0 c3_i32
  let v282 : Index := Scalar.indexCast v0
  let c0_54 : Index := 0#32
  let c192 : Index := 192#32
  let c0_55 : Index := 0#32
  ![v282.toNat, 0, 192, 0]
def k0_off29 (i : grid0.Coords) : Fin 4 → Nat :=
  let arg0 : BitVec 32 := BitVec.ofNat 32 (i 0).val
  let c3_i32 : BitVec 32 := 3#32
  let v0 : BitVec 32 := Scalar.remsi arg0 c3_i32
  let v293 : Index := Scalar.indexCast v0
  let c0_56 : Index := 0#32
  let c200 : Index := 200#32
  let c0_57 : Index := 0#32
  ![v293.toNat, 0, 200, 0]
def k0_off30 (i : grid0.Coords) : Fin 4 → Nat :=
  let arg0 : BitVec 32 := BitVec.ofNat 32 (i 0).val
  let c3_i32 : BitVec 32 := 3#32
  let v0 : BitVec 32 := Scalar.remsi arg0 c3_i32
  let v304 : Index := Scalar.indexCast v0
  let c0_58 : Index := 0#32
  let c208 : Index := 208#32
  let c0_59 : Index := 0#32
  ![v304.toNat, 0, 208, 0]
def k0_off31 (i : grid0.Coords) : Fin 4 → Nat :=
  let arg0 : BitVec 32 := BitVec.ofNat 32 (i 0).val
  let c3_i32 : BitVec 32 := 3#32
  let v0 : BitVec 32 := Scalar.remsi arg0 c3_i32
  let v315 : Index := Scalar.indexCast v0
  let c0_60 : Index := 0#32
  let c216 : Index := 216#32
  let c0_61 : Index := 0#32
  ![v315.toNat, 0, 216, 0]
def k0_off32 (i : grid0.Coords) : Fin 4 → Nat :=
  let arg0 : BitVec 32 := BitVec.ofNat 32 (i 0).val
  let c3_i32 : BitVec 32 := 3#32
  let v0 : BitVec 32 := Scalar.remsi arg0 c3_i32
  let v326 : Index := Scalar.indexCast v0
  let c0_62 : Index := 0#32
  let c224 : Index := 224#32
  let c0_63 : Index := 0#32
  ![v326.toNat, 0, 224, 0]
def k0_off33 (i : grid0.Coords) : Fin 4 → Nat :=
  let arg0 : BitVec 32 := BitVec.ofNat 32 (i 0).val
  let c3_i32 : BitVec 32 := 3#32
  let v0 : BitVec 32 := Scalar.remsi arg0 c3_i32
  let v337 : Index := Scalar.indexCast v0
  let c0_64 : Index := 0#32
  let c232 : Index := 232#32
  let c0_65 : Index := 0#32
  ![v337.toNat, 0, 232, 0]
def k0_off34 (i : grid0.Coords) : Fin 4 → Nat :=
  let arg0 : BitVec 32 := BitVec.ofNat 32 (i 0).val
  let c3_i32 : BitVec 32 := 3#32
  let v0 : BitVec 32 := Scalar.remsi arg0 c3_i32
  let v348 : Index := Scalar.indexCast v0
  let c0_66 : Index := 0#32
  let c240 : Index := 240#32
  let c0_67 : Index := 0#32
  ![v348.toNat, 0, 240, 0]
def k0_off35 (i : grid0.Coords) : Fin 4 → Nat :=
  let arg0 : BitVec 32 := BitVec.ofNat 32 (i 0).val
  let c3_i32 : BitVec 32 := 3#32
  let v0 : BitVec 32 := Scalar.remsi arg0 c3_i32
  let v359 : Index := Scalar.indexCast v0
  let c0_68 : Index := 0#32
  let c248 : Index := 248#32
  let c0_69 : Index := 0#32
  ![v359.toNat, 0, 248, 0]
def k0_off36 (i : grid0.Coords) : Fin 4 → Nat :=
  let arg0 : BitVec 32 := BitVec.ofNat 32 (i 0).val
  let c3_i32 : BitVec 32 := 3#32
  let v0 : BitVec 32 := Scalar.remsi arg0 c3_i32
  let v370 : Index := Scalar.indexCast v0
  let c0_70 : Index := 0#32
  let c256 : Index := 256#32
  let c0_71 : Index := 0#32
  ![v370.toNat, 0, 256, 0]
def k0_off37 (i : grid0.Coords) : Fin 4 → Nat :=
  let arg0 : BitVec 32 := BitVec.ofNat 32 (i 0).val
  let c3_i32 : BitVec 32 := 3#32
  let v0 : BitVec 32 := Scalar.remsi arg0 c3_i32
  let v381 : Index := Scalar.indexCast v0
  let c0_72 : Index := 0#32
  let c264 : Index := 264#32
  let c0_73 : Index := 0#32
  ![v381.toNat, 0, 264, 0]
def k0_off38 (i : grid0.Coords) : Fin 4 → Nat :=
  let arg0 : BitVec 32 := BitVec.ofNat 32 (i 0).val
  let c3_i32 : BitVec 32 := 3#32
  let v0 : BitVec 32 := Scalar.remsi arg0 c3_i32
  let v392 : Index := Scalar.indexCast v0
  let c0_74 : Index := 0#32
  let c272 : Index := 272#32
  let c0_75 : Index := 0#32
  ![v392.toNat, 0, 272, 0]
def k0_off39 (i : grid0.Coords) : Fin 4 → Nat :=
  let arg0 : BitVec 32 := BitVec.ofNat 32 (i 0).val
  let c3_i32 : BitVec 32 := 3#32
  let v0 : BitVec 32 := Scalar.remsi arg0 c3_i32
  let v403 : Index := Scalar.indexCast v0
  let c0_76 : Index := 0#32
  let c280 : Index := 280#32
  let c0_77 : Index := 0#32
  ![v403.toNat, 0, 280, 0]
def k0_off40 (i : grid0.Coords) : Fin 4 → Nat :=
  let arg0 : BitVec 32 := BitVec.ofNat 32 (i 0).val
  let c3_i32 : BitVec 32 := 3#32
  let v0 : BitVec 32 := Scalar.remsi arg0 c3_i32
  let v414 : Index := Scalar.indexCast v0
  let c0_78 : Index := 0#32
  let c288 : Index := 288#32
  let c0_79 : Index := 0#32
  ![v414.toNat, 0, 288, 0]
def k0_off41 (i : grid0.Coords) : Fin 4 → Nat :=
  let arg0 : BitVec 32 := BitVec.ofNat 32 (i 0).val
  let c3_i32 : BitVec 32 := 3#32
  let v0 : BitVec 32 := Scalar.remsi arg0 c3_i32
  let v425 : Index := Scalar.indexCast v0
  let c0_80 : Index := 0#32
  let c296 : Index := 296#32
  let c0_81 : Index := 0#32
  ![v425.toNat, 0, 296, 0]
def k0_off42 (i : grid0.Coords) : Fin 4 → Nat :=
  let arg0 : BitVec 32 := BitVec.ofNat 32 (i 0).val
  let c3_i32 : BitVec 32 := 3#32
  let v0 : BitVec 32 := Scalar.remsi arg0 c3_i32
  let v436 : Index := Scalar.indexCast v0
  let c0_82 : Index := 0#32
  let c304 : Index := 304#32
  let c0_83 : Index := 0#32
  ![v436.toNat, 0, 304, 0]
def k0_off43 (i : grid0.Coords) : Fin 4 → Nat :=
  let arg0 : BitVec 32 := BitVec.ofNat 32 (i 0).val
  let c3_i32 : BitVec 32 := 3#32
  let v0 : BitVec 32 := Scalar.remsi arg0 c3_i32
  let v447 : Index := Scalar.indexCast v0
  let c0_84 : Index := 0#32
  let c312 : Index := 312#32
  let c0_85 : Index := 0#32
  ![v447.toNat, 0, 312, 0]
def k0_off44 (i : grid0.Coords) : Fin 4 → Nat :=
  let arg0 : BitVec 32 := BitVec.ofNat 32 (i 0).val
  let c3_i32 : BitVec 32 := 3#32
  let v0 : BitVec 32 := Scalar.remsi arg0 c3_i32
  let v458 : Index := Scalar.indexCast v0
  let c0_86 : Index := 0#32
  let c320 : Index := 320#32
  let c0_87 : Index := 0#32
  ![v458.toNat, 0, 320, 0]
def k0_off45 (i : grid0.Coords) : Fin 4 → Nat :=
  let arg0 : BitVec 32 := BitVec.ofNat 32 (i 0).val
  let c3_i32 : BitVec 32 := 3#32
  let v0 : BitVec 32 := Scalar.remsi arg0 c3_i32
  let v469 : Index := Scalar.indexCast v0
  let c0_88 : Index := 0#32
  let c328 : Index := 328#32
  let c0_89 : Index := 0#32
  ![v469.toNat, 0, 328, 0]
def k0_off46 (i : grid0.Coords) : Fin 4 → Nat :=
  let arg0 : BitVec 32 := BitVec.ofNat 32 (i 0).val
  let c3_i32 : BitVec 32 := 3#32
  let v0 : BitVec 32 := Scalar.remsi arg0 c3_i32
  let v480 : Index := Scalar.indexCast v0
  let c0_90 : Index := 0#32
  let c336 : Index := 336#32
  let c0_91 : Index := 0#32
  ![v480.toNat, 0, 336, 0]
def k0_off47 (i : grid0.Coords) : Fin 4 → Nat :=
  let arg0 : BitVec 32 := BitVec.ofNat 32 (i 0).val
  let c3_i32 : BitVec 32 := 3#32
  let v0 : BitVec 32 := Scalar.remsi arg0 c3_i32
  let v491 : Index := Scalar.indexCast v0
  let c0_92 : Index := 0#32
  let c344 : Index := 344#32
  let c0_93 : Index := 0#32
  ![v491.toNat, 0, 344, 0]
def k0_off48 (i : grid0.Coords) : Fin 4 → Nat :=
  let arg0 : BitVec 32 := BitVec.ofNat 32 (i 0).val
  let c3_i32 : BitVec 32 := 3#32
  let v0 : BitVec 32 := Scalar.remsi arg0 c3_i32
  let v502 : Index := Scalar.indexCast v0
  let c0_94 : Index := 0#32
  let c352 : Index := 352#32
  let c0_95 : Index := 0#32
  ![v502.toNat, 0, 352, 0]
def k0_off49 (i : grid0.Coords) : Fin 4 → Nat :=
  let arg0 : BitVec 32 := BitVec.ofNat 32 (i 0).val
  let c3_i32 : BitVec 32 := 3#32
  let v0 : BitVec 32 := Scalar.remsi arg0 c3_i32
  let v513 : Index := Scalar.indexCast v0
  let c0_96 : Index := 0#32
  let c360 : Index := 360#32
  let c0_97 : Index := 0#32
  ![v513.toNat, 0, 360, 0]
def k0_off50 (i : grid0.Coords) : Fin 4 → Nat :=
  let arg0 : BitVec 32 := BitVec.ofNat 32 (i 0).val
  let c3_i32 : BitVec 32 := 3#32
  let v0 : BitVec 32 := Scalar.remsi arg0 c3_i32
  let v524 : Index := Scalar.indexCast v0
  let c0_98 : Index := 0#32
  let c368 : Index := 368#32
  let c0_99 : Index := 0#32
  ![v524.toNat, 0, 368, 0]
def k0_off51 (i : grid0.Coords) : Fin 4 → Nat :=
  let arg0 : BitVec 32 := BitVec.ofNat 32 (i 0).val
  let c3_i32 : BitVec 32 := 3#32
  let v0 : BitVec 32 := Scalar.remsi arg0 c3_i32
  let v535 : Index := Scalar.indexCast v0
  let c0_100 : Index := 0#32
  let c376 : Index := 376#32
  let c0_101 : Index := 0#32
  ![v535.toNat, 0, 376, 0]
def k0_off52 (i : grid0.Coords) : Fin 4 → Nat :=
  let arg0 : BitVec 32 := BitVec.ofNat 32 (i 0).val
  let c3_i32 : BitVec 32 := 3#32
  let v0 : BitVec 32 := Scalar.remsi arg0 c3_i32
  let v546 : Index := Scalar.indexCast v0
  let c0_102 : Index := 0#32
  let c384 : Index := 384#32
  let c0_103 : Index := 0#32
  ![v546.toNat, 0, 384, 0]
def k0_off53 (i : grid0.Coords) : Fin 4 → Nat :=
  let arg0 : BitVec 32 := BitVec.ofNat 32 (i 0).val
  let c3_i32 : BitVec 32 := 3#32
  let v0 : BitVec 32 := Scalar.remsi arg0 c3_i32
  let v557 : Index := Scalar.indexCast v0
  let c0_104 : Index := 0#32
  let c392 : Index := 392#32
  let c0_105 : Index := 0#32
  ![v557.toNat, 0, 392, 0]
def k0_off54 (i : grid0.Coords) : Fin 4 → Nat :=
  let arg0 : BitVec 32 := BitVec.ofNat 32 (i 0).val
  let c3_i32 : BitVec 32 := 3#32
  let v0 : BitVec 32 := Scalar.remsi arg0 c3_i32
  let v568 : Index := Scalar.indexCast v0
  let c0_106 : Index := 0#32
  let c400 : Index := 400#32
  let c0_107 : Index := 0#32
  ![v568.toNat, 0, 400, 0]
def k0_off55 (i : grid0.Coords) : Fin 4 → Nat :=
  let arg0 : BitVec 32 := BitVec.ofNat 32 (i 0).val
  let c3_i32 : BitVec 32 := 3#32
  let v0 : BitVec 32 := Scalar.remsi arg0 c3_i32
  let v579 : Index := Scalar.indexCast v0
  let c0_108 : Index := 0#32
  let c408 : Index := 408#32
  let c0_109 : Index := 0#32
  ![v579.toNat, 0, 408, 0]
def k0_off56 (i : grid0.Coords) : Fin 4 → Nat :=
  let arg0 : BitVec 32 := BitVec.ofNat 32 (i 0).val
  let c3_i32 : BitVec 32 := 3#32
  let v0 : BitVec 32 := Scalar.remsi arg0 c3_i32
  let v590 : Index := Scalar.indexCast v0
  let c0_110 : Index := 0#32
  let c416 : Index := 416#32
  let c0_111 : Index := 0#32
  ![v590.toNat, 0, 416, 0]
def k0_off57 (i : grid0.Coords) : Fin 4 → Nat :=
  let arg0 : BitVec 32 := BitVec.ofNat 32 (i 0).val
  let c3_i32 : BitVec 32 := 3#32
  let v0 : BitVec 32 := Scalar.remsi arg0 c3_i32
  let v601 : Index := Scalar.indexCast v0
  let c0_112 : Index := 0#32
  let c424 : Index := 424#32
  let c0_113 : Index := 0#32
  ![v601.toNat, 0, 424, 0]
def k0_off58 (i : grid0.Coords) : Fin 4 → Nat :=
  let arg0 : BitVec 32 := BitVec.ofNat 32 (i 0).val
  let c3_i32 : BitVec 32 := 3#32
  let v0 : BitVec 32 := Scalar.remsi arg0 c3_i32
  let v612 : Index := Scalar.indexCast v0
  let c0_114 : Index := 0#32
  let c432 : Index := 432#32
  let c0_115 : Index := 0#32
  ![v612.toNat, 0, 432, 0]
def k0_off59 (i : grid0.Coords) : Fin 4 → Nat :=
  let arg0 : BitVec 32 := BitVec.ofNat 32 (i 0).val
  let c3_i32 : BitVec 32 := 3#32
  let v0 : BitVec 32 := Scalar.remsi arg0 c3_i32
  let v623 : Index := Scalar.indexCast v0
  let c0_116 : Index := 0#32
  let c440 : Index := 440#32
  let c0_117 : Index := 0#32
  ![v623.toNat, 0, 440, 0]
def k0_off60 (i : grid0.Coords) : Fin 4 → Nat :=
  let arg0 : BitVec 32 := BitVec.ofNat 32 (i 0).val
  let c3_i32 : BitVec 32 := 3#32
  let v0 : BitVec 32 := Scalar.remsi arg0 c3_i32
  let v634 : Index := Scalar.indexCast v0
  let c0_118 : Index := 0#32
  let c448 : Index := 448#32
  let c0_119 : Index := 0#32
  ![v634.toNat, 0, 448, 0]
def k0_off61 (i : grid0.Coords) : Fin 4 → Nat :=
  let arg0 : BitVec 32 := BitVec.ofNat 32 (i 0).val
  let c3_i32 : BitVec 32 := 3#32
  let v0 : BitVec 32 := Scalar.remsi arg0 c3_i32
  let v645 : Index := Scalar.indexCast v0
  let c0_120 : Index := 0#32
  let c456 : Index := 456#32
  let c0_121 : Index := 0#32
  ![v645.toNat, 0, 456, 0]
def k0_off62 (i : grid0.Coords) : Fin 4 → Nat :=
  let arg0 : BitVec 32 := BitVec.ofNat 32 (i 0).val
  let c3_i32 : BitVec 32 := 3#32
  let v0 : BitVec 32 := Scalar.remsi arg0 c3_i32
  let v656 : Index := Scalar.indexCast v0
  let c0_122 : Index := 0#32
  let c464 : Index := 464#32
  let c0_123 : Index := 0#32
  ![v656.toNat, 0, 464, 0]
def k0_off63 (i : grid0.Coords) : Fin 4 → Nat :=
  let arg0 : BitVec 32 := BitVec.ofNat 32 (i 0).val
  let c3_i32 : BitVec 32 := 3#32
  let v0 : BitVec 32 := Scalar.remsi arg0 c3_i32
  let v667 : Index := Scalar.indexCast v0
  let c0_124 : Index := 0#32
  let c472 : Index := 472#32
  let c0_125 : Index := 0#32
  ![v667.toNat, 0, 472, 0]
def k0_off64 (i : grid0.Coords) : Fin 4 → Nat :=
  let arg0 : BitVec 32 := BitVec.ofNat 32 (i 0).val
  let c3_i32 : BitVec 32 := 3#32
  let v0 : BitVec 32 := Scalar.remsi arg0 c3_i32
  let v678 : Index := Scalar.indexCast v0
  let c0_126 : Index := 0#32
  let c480 : Index := 480#32
  let c0_127 : Index := 0#32
  ![v678.toNat, 0, 480, 0]
def k0_off65 (i : grid0.Coords) : Fin 4 → Nat :=
  let arg0 : BitVec 32 := BitVec.ofNat 32 (i 0).val
  let c3_i32 : BitVec 32 := 3#32
  let v0 : BitVec 32 := Scalar.remsi arg0 c3_i32
  let v689 : Index := Scalar.indexCast v0
  let c0_128 : Index := 0#32
  let c488 : Index := 488#32
  let c0_129 : Index := 0#32
  ![v689.toNat, 0, 488, 0]
def k0_off66 (i : grid0.Coords) : Fin 4 → Nat :=
  let arg0 : BitVec 32 := BitVec.ofNat 32 (i 0).val
  let c3_i32 : BitVec 32 := 3#32
  let v0 : BitVec 32 := Scalar.remsi arg0 c3_i32
  let v700 : Index := Scalar.indexCast v0
  let c0_130 : Index := 0#32
  let c496 : Index := 496#32
  let c0_131 : Index := 0#32
  ![v700.toNat, 0, 496, 0]
def k0_off67 (i : grid0.Coords) : Fin 4 → Nat :=
  let arg0 : BitVec 32 := BitVec.ofNat 32 (i 0).val
  let c3_i32 : BitVec 32 := 3#32
  let v0 : BitVec 32 := Scalar.remsi arg0 c3_i32
  let v711 : Index := Scalar.indexCast v0
  let c0_132 : Index := 0#32
  let c504 : Index := 504#32
  let c0_133 : Index := 0#32
  ![v711.toNat, 0, 504, 0]
def k0_off68 (i : grid0.Coords) : Fin 4 → Nat :=
  let arg0 : BitVec 32 := BitVec.ofNat 32 (i 0).val
  let c3_i32 : BitVec 32 := 3#32
  let v0 : BitVec 32 := Scalar.remsi arg0 c3_i32
  let v722 : Index := Scalar.indexCast v0
  let c0_134 : Index := 0#32
  let c512 : Index := 512#32
  let c0_135 : Index := 0#32
  ![v722.toNat, 0, 512, 0]
def k0_off69 (i : grid0.Coords) : Fin 4 → Nat :=
  let arg0 : BitVec 32 := BitVec.ofNat 32 (i 0).val
  let c3_i32 : BitVec 32 := 3#32
  let v0 : BitVec 32 := Scalar.remsi arg0 c3_i32
  let v733 : Index := Scalar.indexCast v0
  let c0_136 : Index := 0#32
  let c520 : Index := 520#32
  let c0_137 : Index := 0#32
  ![v733.toNat, 0, 520, 0]
def k0_off70 (i : grid0.Coords) : Fin 4 → Nat :=
  let arg0 : BitVec 32 := BitVec.ofNat 32 (i 0).val
  let c3_i32 : BitVec 32 := 3#32
  let v0 : BitVec 32 := Scalar.remsi arg0 c3_i32
  let v744 : Index := Scalar.indexCast v0
  let c0_138 : Index := 0#32
  let c528 : Index := 528#32
  let c0_139 : Index := 0#32
  ![v744.toNat, 0, 528, 0]
def k0_off71 (i : grid0.Coords) : Fin 4 → Nat :=
  let arg0 : BitVec 32 := BitVec.ofNat 32 (i 0).val
  let c3_i32 : BitVec 32 := 3#32
  let v0 : BitVec 32 := Scalar.remsi arg0 c3_i32
  let v755 : Index := Scalar.indexCast v0
  let c0_140 : Index := 0#32
  let c536 : Index := 536#32
  let c0_141 : Index := 0#32
  ![v755.toNat, 0, 536, 0]
def k0_off72 (i : grid0.Coords) : Fin 4 → Nat :=
  let arg0 : BitVec 32 := BitVec.ofNat 32 (i 0).val
  let c3_i32 : BitVec 32 := 3#32
  let v0 : BitVec 32 := Scalar.remsi arg0 c3_i32
  let v766 : Index := Scalar.indexCast v0
  let c0_142 : Index := 0#32
  let c544 : Index := 544#32
  let c0_143 : Index := 0#32
  ![v766.toNat, 0, 544, 0]
def k0_off73 (i : grid0.Coords) : Fin 4 → Nat :=
  let arg0 : BitVec 32 := BitVec.ofNat 32 (i 0).val
  let c3_i32 : BitVec 32 := 3#32
  let v0 : BitVec 32 := Scalar.remsi arg0 c3_i32
  let v777 : Index := Scalar.indexCast v0
  let c0_144 : Index := 0#32
  let c552 : Index := 552#32
  let c0_145 : Index := 0#32
  ![v777.toNat, 0, 552, 0]
def k0_off74 (i : grid0.Coords) : Fin 4 → Nat :=
  let arg0 : BitVec 32 := BitVec.ofNat 32 (i 0).val
  let c3_i32 : BitVec 32 := 3#32
  let v0 : BitVec 32 := Scalar.remsi arg0 c3_i32
  let v788 : Index := Scalar.indexCast v0
  let c0_146 : Index := 0#32
  let c560 : Index := 560#32
  let c0_147 : Index := 0#32
  ![v788.toNat, 0, 560, 0]
def k0_off75 (i : grid0.Coords) : Fin 4 → Nat :=
  let arg0 : BitVec 32 := BitVec.ofNat 32 (i 0).val
  let c3_i32 : BitVec 32 := 3#32
  let v0 : BitVec 32 := Scalar.remsi arg0 c3_i32
  let v799 : Index := Scalar.indexCast v0
  let c0_148 : Index := 0#32
  let c568 : Index := 568#32
  let c0_149 : Index := 0#32
  ![v799.toNat, 0, 568, 0]
def k0_off76 (i : grid0.Coords) : Fin 4 → Nat :=
  let arg0 : BitVec 32 := BitVec.ofNat 32 (i 0).val
  let c3_i32 : BitVec 32 := 3#32
  let v0 : BitVec 32 := Scalar.remsi arg0 c3_i32
  let v810 : Index := Scalar.indexCast v0
  let c0_150 : Index := 0#32
  let c576 : Index := 576#32
  let c0_151 : Index := 0#32
  ![v810.toNat, 0, 576, 0]
def k0_off77 (i : grid0.Coords) : Fin 4 → Nat :=
  let arg0 : BitVec 32 := BitVec.ofNat 32 (i 0).val
  let c3_i32 : BitVec 32 := 3#32
  let v0 : BitVec 32 := Scalar.remsi arg0 c3_i32
  let v821 : Index := Scalar.indexCast v0
  let c0_152 : Index := 0#32
  let c584 : Index := 584#32
  let c0_153 : Index := 0#32
  ![v821.toNat, 0, 584, 0]
def k0_off78 (i : grid0.Coords) : Fin 4 → Nat :=
  let arg0 : BitVec 32 := BitVec.ofNat 32 (i 0).val
  let c3_i32 : BitVec 32 := 3#32
  let v0 : BitVec 32 := Scalar.remsi arg0 c3_i32
  let v832 : Index := Scalar.indexCast v0
  let c0_154 : Index := 0#32
  let c592 : Index := 592#32
  let c0_155 : Index := 0#32
  ![v832.toNat, 0, 592, 0]
def k0_off79 (i : grid0.Coords) : Fin 4 → Nat :=
  let arg0 : BitVec 32 := BitVec.ofNat 32 (i 0).val
  let c3_i32 : BitVec 32 := 3#32
  let v0 : BitVec 32 := Scalar.remsi arg0 c3_i32
  let v843 : Index := Scalar.indexCast v0
  let c0_156 : Index := 0#32
  let c600 : Index := 600#32
  let c0_157 : Index := 0#32
  ![v843.toNat, 0, 600, 0]
def k0_off80 (i : grid0.Coords) : Fin 4 → Nat :=
  let arg0 : BitVec 32 := BitVec.ofNat 32 (i 0).val
  let c3_i32 : BitVec 32 := 3#32
  let v0 : BitVec 32 := Scalar.remsi arg0 c3_i32
  let v854 : Index := Scalar.indexCast v0
  let c0_158 : Index := 0#32
  let c608 : Index := 608#32
  let c0_159 : Index := 0#32
  ![v854.toNat, 0, 608, 0]
def k0_off81 (i : grid0.Coords) : Fin 4 → Nat :=
  let arg0 : BitVec 32 := BitVec.ofNat 32 (i 0).val
  let c3_i32 : BitVec 32 := 3#32
  let v0 : BitVec 32 := Scalar.remsi arg0 c3_i32
  let v865 : Index := Scalar.indexCast v0
  let c0_160 : Index := 0#32
  let c616 : Index := 616#32
  let c0_161 : Index := 0#32
  ![v865.toNat, 0, 616, 0]
def k0_off82 (i : grid0.Coords) : Fin 4 → Nat :=
  let arg0 : BitVec 32 := BitVec.ofNat 32 (i 0).val
  let c3_i32 : BitVec 32 := 3#32
  let v0 : BitVec 32 := Scalar.remsi arg0 c3_i32
  let v876 : Index := Scalar.indexCast v0
  let c0_162 : Index := 0#32
  let c624 : Index := 624#32
  let c0_163 : Index := 0#32
  ![v876.toNat, 0, 624, 0]
def k0_off83 (i : grid0.Coords) : Fin 4 → Nat :=
  let arg0 : BitVec 32 := BitVec.ofNat 32 (i 0).val
  let c3_i32 : BitVec 32 := 3#32
  let v0 : BitVec 32 := Scalar.remsi arg0 c3_i32
  let v887 : Index := Scalar.indexCast v0
  let c0_164 : Index := 0#32
  let c632 : Index := 632#32
  let c0_165 : Index := 0#32
  ![v887.toNat, 0, 632, 0]
def k0_off84 (i : grid0.Coords) : Fin 4 → Nat :=
  let arg0 : BitVec 32 := BitVec.ofNat 32 (i 0).val
  let c3_i32 : BitVec 32 := 3#32
  let v0 : BitVec 32 := Scalar.remsi arg0 c3_i32
  let v898 : Index := Scalar.indexCast v0
  let c0_166 : Index := 0#32
  let c640 : Index := 640#32
  let c0_167 : Index := 0#32
  ![v898.toNat, 0, 640, 0]
def k0_off85 (i : grid0.Coords) : Fin 4 → Nat :=
  let arg0 : BitVec 32 := BitVec.ofNat 32 (i 0).val
  let c3_i32 : BitVec 32 := 3#32
  let v0 : BitVec 32 := Scalar.remsi arg0 c3_i32
  let v909 : Index := Scalar.indexCast v0
  let c0_168 : Index := 0#32
  let c648 : Index := 648#32
  let c0_169 : Index := 0#32
  ![v909.toNat, 0, 648, 0]
def k0_off86 (i : grid0.Coords) : Fin 4 → Nat :=
  let arg0 : BitVec 32 := BitVec.ofNat 32 (i 0).val
  let c3_i32 : BitVec 32 := 3#32
  let v0 : BitVec 32 := Scalar.remsi arg0 c3_i32
  let v920 : Index := Scalar.indexCast v0
  let c0_170 : Index := 0#32
  let c656 : Index := 656#32
  let c0_171 : Index := 0#32
  ![v920.toNat, 0, 656, 0]
def k0_off87 (i : grid0.Coords) : Fin 4 → Nat :=
  let arg0 : BitVec 32 := BitVec.ofNat 32 (i 0).val
  let c3_i32 : BitVec 32 := 3#32
  let v0 : BitVec 32 := Scalar.remsi arg0 c3_i32
  let v931 : Index := Scalar.indexCast v0
  let c0_172 : Index := 0#32
  let c664 : Index := 664#32
  let c0_173 : Index := 0#32
  ![v931.toNat, 0, 664, 0]
def k0_off88 (i : grid0.Coords) : Fin 4 → Nat :=
  let arg0 : BitVec 32 := BitVec.ofNat 32 (i 0).val
  let c3_i32 : BitVec 32 := 3#32
  let v0 : BitVec 32 := Scalar.remsi arg0 c3_i32
  let v942 : Index := Scalar.indexCast v0
  let c0_174 : Index := 0#32
  let c672 : Index := 672#32
  let c0_175 : Index := 0#32
  ![v942.toNat, 0, 672, 0]
def k0_off89 (i : grid0.Coords) : Fin 4 → Nat :=
  let arg0 : BitVec 32 := BitVec.ofNat 32 (i 0).val
  let c3_i32 : BitVec 32 := 3#32
  let v0 : BitVec 32 := Scalar.remsi arg0 c3_i32
  let v953 : Index := Scalar.indexCast v0
  let c0_176 : Index := 0#32
  let c680 : Index := 680#32
  let c0_177 : Index := 0#32
  ![v953.toNat, 0, 680, 0]
def k0_off90 (i : grid0.Coords) : Fin 4 → Nat :=
  let arg0 : BitVec 32 := BitVec.ofNat 32 (i 0).val
  let c3_i32 : BitVec 32 := 3#32
  let v0 : BitVec 32 := Scalar.remsi arg0 c3_i32
  let v964 : Index := Scalar.indexCast v0
  let c0_178 : Index := 0#32
  let c688 : Index := 688#32
  let c0_179 : Index := 0#32
  ![v964.toNat, 0, 688, 0]
def k0_off91 (i : grid0.Coords) : Fin 4 → Nat :=
  let arg0 : BitVec 32 := BitVec.ofNat 32 (i 0).val
  let c3_i32 : BitVec 32 := 3#32
  let v0 : BitVec 32 := Scalar.remsi arg0 c3_i32
  let v975 : Index := Scalar.indexCast v0
  let c0_180 : Index := 0#32
  let c696 : Index := 696#32
  let c0_181 : Index := 0#32
  ![v975.toNat, 0, 696, 0]
def k0_off92 (i : grid0.Coords) : Fin 4 → Nat :=
  let arg0 : BitVec 32 := BitVec.ofNat 32 (i 0).val
  let c3_i32 : BitVec 32 := 3#32
  let v0 : BitVec 32 := Scalar.remsi arg0 c3_i32
  let v986 : Index := Scalar.indexCast v0
  let c0_182 : Index := 0#32
  let c704 : Index := 704#32
  let c0_183 : Index := 0#32
  ![v986.toNat, 0, 704, 0]
def k0_off93 (i : grid0.Coords) : Fin 4 → Nat :=
  let arg0 : BitVec 32 := BitVec.ofNat 32 (i 0).val
  let c3_i32 : BitVec 32 := 3#32
  let v0 : BitVec 32 := Scalar.remsi arg0 c3_i32
  let v997 : Index := Scalar.indexCast v0
  let c0_184 : Index := 0#32
  let c712 : Index := 712#32
  let c0_185 : Index := 0#32
  ![v997.toNat, 0, 712, 0]
def k0_off94 (i : grid0.Coords) : Fin 4 → Nat :=
  let arg0 : BitVec 32 := BitVec.ofNat 32 (i 0).val
  let c3_i32 : BitVec 32 := 3#32
  let v0 : BitVec 32 := Scalar.remsi arg0 c3_i32
  let v1008 : Index := Scalar.indexCast v0
  let c0_186 : Index := 0#32
  let c720 : Index := 720#32
  let c0_187 : Index := 0#32
  ![v1008.toNat, 0, 720, 0]
def k0_off95 (i : grid0.Coords) : Fin 4 → Nat :=
  let arg0 : BitVec 32 := BitVec.ofNat 32 (i 0).val
  let c3_i32 : BitVec 32 := 3#32
  let v0 : BitVec 32 := Scalar.remsi arg0 c3_i32
  let v1019 : Index := Scalar.indexCast v0
  let c0_188 : Index := 0#32
  let c728 : Index := 728#32
  let c0_189 : Index := 0#32
  ![v1019.toNat, 0, 728, 0]
def k0_off96 (i : grid0.Coords) : Fin 4 → Nat :=
  let arg0 : BitVec 32 := BitVec.ofNat 32 (i 0).val
  let c3_i32 : BitVec 32 := 3#32
  let v0 : BitVec 32 := Scalar.remsi arg0 c3_i32
  let v1030 : Index := Scalar.indexCast v0
  let c0_190 : Index := 0#32
  let c736 : Index := 736#32
  let c0_191 : Index := 0#32
  ![v1030.toNat, 0, 736, 0]
def k0_off97 (i : grid0.Coords) : Fin 4 → Nat :=
  let arg0 : BitVec 32 := BitVec.ofNat 32 (i 0).val
  let c3_i32 : BitVec 32 := 3#32
  let v0 : BitVec 32 := Scalar.remsi arg0 c3_i32
  let v1041 : Index := Scalar.indexCast v0
  let c0_192 : Index := 0#32
  let c744 : Index := 744#32
  let c0_193 : Index := 0#32
  ![v1041.toNat, 0, 744, 0]
def k0_off98 (i : grid0.Coords) : Fin 4 → Nat :=
  let arg0 : BitVec 32 := BitVec.ofNat 32 (i 0).val
  let c3_i32 : BitVec 32 := 3#32
  let v0 : BitVec 32 := Scalar.remsi arg0 c3_i32
  let v1052 : Index := Scalar.indexCast v0
  let c0_194 : Index := 0#32
  let c752 : Index := 752#32
  let c0_195 : Index := 0#32
  ![v1052.toNat, 0, 752, 0]
def k0_off99 (i : grid0.Coords) : Fin 4 → Nat :=
  let arg0 : BitVec 32 := BitVec.ofNat 32 (i 0).val
  let c3_i32 : BitVec 32 := 3#32
  let v0 : BitVec 32 := Scalar.remsi arg0 c3_i32
  let v1063 : Index := Scalar.indexCast v0
  let c0_196 : Index := 0#32
  let c760 : Index := 760#32
  let c0_197 : Index := 0#32
  ![v1063.toNat, 0, 760, 0]
def k0_off100 (i : grid0.Coords) : Fin 4 → Nat :=
  let arg0 : BitVec 32 := BitVec.ofNat 32 (i 0).val
  let c3_i32 : BitVec 32 := 3#32
  let v0 : BitVec 32 := Scalar.remsi arg0 c3_i32
  let v1074 : Index := Scalar.indexCast v0
  let c0_198 : Index := 0#32
  let c768 : Index := 768#32
  let c0_199 : Index := 0#32
  ![v1074.toNat, 0, 768, 0]
def k0_off101 (i : grid0.Coords) : Fin 4 → Nat :=
  let arg0 : BitVec 32 := BitVec.ofNat 32 (i 0).val
  let c3_i32 : BitVec 32 := 3#32
  let v0 : BitVec 32 := Scalar.remsi arg0 c3_i32
  let v1085 : Index := Scalar.indexCast v0
  let c0_200 : Index := 0#32
  let c776 : Index := 776#32
  let c0_201 : Index := 0#32
  ![v1085.toNat, 0, 776, 0]
def k0_off102 (i : grid0.Coords) : Fin 4 → Nat :=
  let arg0 : BitVec 32 := BitVec.ofNat 32 (i 0).val
  let c3_i32 : BitVec 32 := 3#32
  let v0 : BitVec 32 := Scalar.remsi arg0 c3_i32
  let v1096 : Index := Scalar.indexCast v0
  let c0_202 : Index := 0#32
  let c784 : Index := 784#32
  let c0_203 : Index := 0#32
  ![v1096.toNat, 0, 784, 0]
def k0_off103 (i : grid0.Coords) : Fin 4 → Nat :=
  let arg0 : BitVec 32 := BitVec.ofNat 32 (i 0).val
  let c3_i32 : BitVec 32 := 3#32
  let v0 : BitVec 32 := Scalar.remsi arg0 c3_i32
  let v1107 : Index := Scalar.indexCast v0
  let c0_204 : Index := 0#32
  let c792 : Index := 792#32
  let c0_205 : Index := 0#32
  ![v1107.toNat, 0, 792, 0]
def k0_off104 (i : grid0.Coords) : Fin 4 → Nat :=
  let arg0 : BitVec 32 := BitVec.ofNat 32 (i 0).val
  let c3_i32 : BitVec 32 := 3#32
  let v0 : BitVec 32 := Scalar.remsi arg0 c3_i32
  let v1118 : Index := Scalar.indexCast v0
  let c0_206 : Index := 0#32
  let c800 : Index := 800#32
  let c0_207 : Index := 0#32
  ![v1118.toNat, 0, 800, 0]
def k0_off105 (i : grid0.Coords) : Fin 4 → Nat :=
  let arg0 : BitVec 32 := BitVec.ofNat 32 (i 0).val
  let c3_i32 : BitVec 32 := 3#32
  let v0 : BitVec 32 := Scalar.remsi arg0 c3_i32
  let v1129 : Index := Scalar.indexCast v0
  let c0_208 : Index := 0#32
  let c808 : Index := 808#32
  let c0_209 : Index := 0#32
  ![v1129.toNat, 0, 808, 0]
def k0_off106 (i : grid0.Coords) : Fin 4 → Nat :=
  let arg0 : BitVec 32 := BitVec.ofNat 32 (i 0).val
  let c3_i32 : BitVec 32 := 3#32
  let v0 : BitVec 32 := Scalar.remsi arg0 c3_i32
  let v1140 : Index := Scalar.indexCast v0
  let c0_210 : Index := 0#32
  let c816 : Index := 816#32
  let c0_211 : Index := 0#32
  ![v1140.toNat, 0, 816, 0]
def k0_off107 (i : grid0.Coords) : Fin 4 → Nat :=
  let arg0 : BitVec 32 := BitVec.ofNat 32 (i 0).val
  let c3_i32 : BitVec 32 := 3#32
  let v0 : BitVec 32 := Scalar.remsi arg0 c3_i32
  let v1151 : Index := Scalar.indexCast v0
  let c0_212 : Index := 0#32
  let c824 : Index := 824#32
  let c0_213 : Index := 0#32
  ![v1151.toNat, 0, 824, 0]
def k0_off108 (i : grid0.Coords) : Fin 4 → Nat :=
  let arg0 : BitVec 32 := BitVec.ofNat 32 (i 0).val
  let c3_i32 : BitVec 32 := 3#32
  let v0 : BitVec 32 := Scalar.remsi arg0 c3_i32
  let v1162 : Index := Scalar.indexCast v0
  let c0_214 : Index := 0#32
  let c832 : Index := 832#32
  let c0_215 : Index := 0#32
  ![v1162.toNat, 0, 832, 0]
def k0_off109 (i : grid0.Coords) : Fin 4 → Nat :=
  let arg0 : BitVec 32 := BitVec.ofNat 32 (i 0).val
  let c3_i32 : BitVec 32 := 3#32
  let v0 : BitVec 32 := Scalar.remsi arg0 c3_i32
  let v1173 : Index := Scalar.indexCast v0
  let c0_216 : Index := 0#32
  let c840 : Index := 840#32
  let c0_217 : Index := 0#32
  ![v1173.toNat, 0, 840, 0]
def k0_off110 (i : grid0.Coords) : Fin 4 → Nat :=
  let arg0 : BitVec 32 := BitVec.ofNat 32 (i 0).val
  let c3_i32 : BitVec 32 := 3#32
  let v0 : BitVec 32 := Scalar.remsi arg0 c3_i32
  let v1184 : Index := Scalar.indexCast v0
  let c0_218 : Index := 0#32
  let c848 : Index := 848#32
  let c0_219 : Index := 0#32
  ![v1184.toNat, 0, 848, 0]
def k0_off111 (i : grid0.Coords) : Fin 4 → Nat :=
  let arg0 : BitVec 32 := BitVec.ofNat 32 (i 0).val
  let c3_i32 : BitVec 32 := 3#32
  let v0 : BitVec 32 := Scalar.remsi arg0 c3_i32
  let v1195 : Index := Scalar.indexCast v0
  let c0_220 : Index := 0#32
  let c856 : Index := 856#32
  let c0_221 : Index := 0#32
  ![v1195.toNat, 0, 856, 0]
def k0_off112 (i : grid0.Coords) : Fin 4 → Nat :=
  let arg0 : BitVec 32 := BitVec.ofNat 32 (i 0).val
  let c3_i32 : BitVec 32 := 3#32
  let v0 : BitVec 32 := Scalar.remsi arg0 c3_i32
  let v1206 : Index := Scalar.indexCast v0
  let c0_222 : Index := 0#32
  let c864 : Index := 864#32
  let c0_223 : Index := 0#32
  ![v1206.toNat, 0, 864, 0]
def k0_off113 (i : grid0.Coords) : Fin 4 → Nat :=
  let arg0 : BitVec 32 := BitVec.ofNat 32 (i 0).val
  let c3_i32 : BitVec 32 := 3#32
  let v0 : BitVec 32 := Scalar.remsi arg0 c3_i32
  let v1217 : Index := Scalar.indexCast v0
  let c0_224 : Index := 0#32
  let c872 : Index := 872#32
  let c0_225 : Index := 0#32
  ![v1217.toNat, 0, 872, 0]
def k0_off114 (i : grid0.Coords) : Fin 4 → Nat :=
  let arg0 : BitVec 32 := BitVec.ofNat 32 (i 0).val
  let c3_i32 : BitVec 32 := 3#32
  let v0 : BitVec 32 := Scalar.remsi arg0 c3_i32
  let v1228 : Index := Scalar.indexCast v0
  let c0_226 : Index := 0#32
  let c880 : Index := 880#32
  let c0_227 : Index := 0#32
  ![v1228.toNat, 0, 880, 0]
def k0_off115 (i : grid0.Coords) : Fin 4 → Nat :=
  let arg0 : BitVec 32 := BitVec.ofNat 32 (i 0).val
  let c3_i32 : BitVec 32 := 3#32
  let v0 : BitVec 32 := Scalar.remsi arg0 c3_i32
  let v1239 : Index := Scalar.indexCast v0
  let c0_228 : Index := 0#32
  let c888 : Index := 888#32
  let c0_229 : Index := 0#32
  ![v1239.toNat, 0, 888, 0]
def k0_off116 (i : grid0.Coords) : Fin 4 → Nat :=
  let arg0 : BitVec 32 := BitVec.ofNat 32 (i 0).val
  let c3_i32 : BitVec 32 := 3#32
  let v0 : BitVec 32 := Scalar.remsi arg0 c3_i32
  let v1250 : Index := Scalar.indexCast v0
  let c0_230 : Index := 0#32
  let c896 : Index := 896#32
  let c0_231 : Index := 0#32
  ![v1250.toNat, 0, 896, 0]
def k0_off117 (i : grid0.Coords) : Fin 4 → Nat :=
  let arg0 : BitVec 32 := BitVec.ofNat 32 (i 0).val
  let c3_i32 : BitVec 32 := 3#32
  let v0 : BitVec 32 := Scalar.remsi arg0 c3_i32
  let v1261 : Index := Scalar.indexCast v0
  let c0_232 : Index := 0#32
  let c904 : Index := 904#32
  let c0_233 : Index := 0#32
  ![v1261.toNat, 0, 904, 0]
def k0_off118 (i : grid0.Coords) : Fin 4 → Nat :=
  let arg0 : BitVec 32 := BitVec.ofNat 32 (i 0).val
  let c3_i32 : BitVec 32 := 3#32
  let v0 : BitVec 32 := Scalar.remsi arg0 c3_i32
  let v1272 : Index := Scalar.indexCast v0
  let c0_234 : Index := 0#32
  let c912 : Index := 912#32
  let c0_235 : Index := 0#32
  ![v1272.toNat, 0, 912, 0]
def k0_off119 (i : grid0.Coords) : Fin 4 → Nat :=
  let arg0 : BitVec 32 := BitVec.ofNat 32 (i 0).val
  let c3_i32 : BitVec 32 := 3#32
  let v0 : BitVec 32 := Scalar.remsi arg0 c3_i32
  let v1283 : Index := Scalar.indexCast v0
  let c0_236 : Index := 0#32
  let c920 : Index := 920#32
  let c0_237 : Index := 0#32
  ![v1283.toNat, 0, 920, 0]
def k0_off120 (i : grid0.Coords) : Fin 4 → Nat :=
  let arg0 : BitVec 32 := BitVec.ofNat 32 (i 0).val
  let c3_i32 : BitVec 32 := 3#32
  let v0 : BitVec 32 := Scalar.remsi arg0 c3_i32
  let v1294 : Index := Scalar.indexCast v0
  let c0_238 : Index := 0#32
  let c928 : Index := 928#32
  let c0_239 : Index := 0#32
  ![v1294.toNat, 0, 928, 0]
def k0_off121 (i : grid0.Coords) : Fin 4 → Nat :=
  let arg0 : BitVec 32 := BitVec.ofNat 32 (i 0).val
  let c3_i32 : BitVec 32 := 3#32
  let v0 : BitVec 32 := Scalar.remsi arg0 c3_i32
  let v1305 : Index := Scalar.indexCast v0
  let c0_240 : Index := 0#32
  let c936 : Index := 936#32
  let c0_241 : Index := 0#32
  ![v1305.toNat, 0, 936, 0]
def k0_off122 (i : grid0.Coords) : Fin 4 → Nat :=
  let arg0 : BitVec 32 := BitVec.ofNat 32 (i 0).val
  let c3_i32 : BitVec 32 := 3#32
  let v0 : BitVec 32 := Scalar.remsi arg0 c3_i32
  let v1316 : Index := Scalar.indexCast v0
  let c0_242 : Index := 0#32
  let c944 : Index := 944#32
  let c0_243 : Index := 0#32
  ![v1316.toNat, 0, 944, 0]
def k0_off123 (i : grid0.Coords) : Fin 4 → Nat :=
  let arg0 : BitVec 32 := BitVec.ofNat 32 (i 0).val
  let c3_i32 : BitVec 32 := 3#32
  let v0 : BitVec 32 := Scalar.remsi arg0 c3_i32
  let v1327 : Index := Scalar.indexCast v0
  let c0_244 : Index := 0#32
  let c952 : Index := 952#32
  let c0_245 : Index := 0#32
  ![v1327.toNat, 0, 952, 0]
def k0_off124 (i : grid0.Coords) : Fin 4 → Nat :=
  let arg0 : BitVec 32 := BitVec.ofNat 32 (i 0).val
  let c3_i32 : BitVec 32 := 3#32
  let v0 : BitVec 32 := Scalar.remsi arg0 c3_i32
  let v1338 : Index := Scalar.indexCast v0
  let c0_246 : Index := 0#32
  let c960 : Index := 960#32
  let c0_247 : Index := 0#32
  ![v1338.toNat, 0, 960, 0]
def k0_off125 (i : grid0.Coords) : Fin 4 → Nat :=
  let arg0 : BitVec 32 := BitVec.ofNat 32 (i 0).val
  let c3_i32 : BitVec 32 := 3#32
  let v0 : BitVec 32 := Scalar.remsi arg0 c3_i32
  let v1349 : Index := Scalar.indexCast v0
  let c0_248 : Index := 0#32
  let c968 : Index := 968#32
  let c0_249 : Index := 0#32
  ![v1349.toNat, 0, 968, 0]
def k0_off126 (i : grid0.Coords) : Fin 4 → Nat :=
  let arg0 : BitVec 32 := BitVec.ofNat 32 (i 0).val
  let c3_i32 : BitVec 32 := 3#32
  let v0 : BitVec 32 := Scalar.remsi arg0 c3_i32
  let v1360 : Index := Scalar.indexCast v0
  let c0_250 : Index := 0#32
  let c976 : Index := 976#32
  let c0_251 : Index := 0#32
  ![v1360.toNat, 0, 976, 0]
def k0_off127 (i : grid0.Coords) : Fin 4 → Nat :=
  let arg0 : BitVec 32 := BitVec.ofNat 32 (i 0).val
  let c3_i32 : BitVec 32 := 3#32
  let v0 : BitVec 32 := Scalar.remsi arg0 c3_i32
  let v1371 : Index := Scalar.indexCast v0
  let c0_252 : Index := 0#32
  let c984 : Index := 984#32
  let c0_253 : Index := 0#32
  ![v1371.toNat, 0, 984, 0]
def k0_off128 (i : grid0.Coords) : Fin 4 → Nat :=
  let arg0 : BitVec 32 := BitVec.ofNat 32 (i 0).val
  let c3_i32 : BitVec 32 := 3#32
  let v0 : BitVec 32 := Scalar.remsi arg0 c3_i32
  let v1382 : Index := Scalar.indexCast v0
  let c0_254 : Index := 0#32
  let c992 : Index := 992#32
  let c0_255 : Index := 0#32
  ![v1382.toNat, 0, 992, 0]
def k0_off129 (i : grid0.Coords) : Fin 4 → Nat :=
  let arg0 : BitVec 32 := BitVec.ofNat 32 (i 0).val
  let c3_i32 : BitVec 32 := 3#32
  let v0 : BitVec 32 := Scalar.remsi arg0 c3_i32
  let v1390 : Index := Scalar.indexCast v0
  let c8_256 : Index := 8#32
  let c0_257 : Index := 0#32
  let c0_258 : Index := 0#32
  ![v1390.toNat, 8, 0, 0]
def k0_off130 (i : grid0.Coords) : Fin 4 → Nat :=
  let arg0 : BitVec 32 := BitVec.ofNat 32 (i 0).val
  let c3_i32 : BitVec 32 := 3#32
  let v0 : BitVec 32 := Scalar.remsi arg0 c3_i32
  let v1397 : Index := Scalar.indexCast v0
  let c9 : Index := 9#32
  let c0_260 : Index := 0#32
  let c0_261 : Index := 0#32
  ![v1397.toNat, 9, 0, 0]
def k0_off131 (i : grid0.Coords) : Fin 4 → Nat :=
  let arg0 : BitVec 32 := BitVec.ofNat 32 (i 0).val
  let c3_i32 : BitVec 32 := 3#32
  let v0 : BitVec 32 := Scalar.remsi arg0 c3_i32
  let v1404 : Index := Scalar.indexCast v0
  let c10 : Index := 10#32
  let c0_263 : Index := 0#32
  let c0_264 : Index := 0#32
  ![v1404.toNat, 10, 0, 0]
def k0_off132 (i : grid0.Coords) : Fin 4 → Nat :=
  let arg0 : BitVec 32 := BitVec.ofNat 32 (i 0).val
  let c3_i32 : BitVec 32 := 3#32
  let v0 : BitVec 32 := Scalar.remsi arg0 c3_i32
  let v1411 : Index := Scalar.indexCast v0
  let c11 : Index := 11#32
  let c0_266 : Index := 0#32
  let c0_267 : Index := 0#32
  ![v1411.toNat, 11, 0, 0]
def k0_off133 (i : grid0.Coords) : Fin 4 → Nat :=
  let arg0 : BitVec 32 := BitVec.ofNat 32 (i 0).val
  let c3_i32 : BitVec 32 := 3#32
  let v0 : BitVec 32 := Scalar.remsi arg0 c3_i32
  let v1418 : Index := Scalar.indexCast v0
  let c12 : Index := 12#32
  let c0_269 : Index := 0#32
  let c0_270 : Index := 0#32
  ![v1418.toNat, 12, 0, 0]
def k0_off134 (i : grid0.Coords) : Fin 4 → Nat :=
  let arg0 : BitVec 32 := BitVec.ofNat 32 (i 0).val
  let c3_i32 : BitVec 32 := 3#32
  let v0 : BitVec 32 := Scalar.remsi arg0 c3_i32
  let v1425 : Index := Scalar.indexCast v0
  let c13 : Index := 13#32
  let c0_272 : Index := 0#32
  let c0_273 : Index := 0#32
  ![v1425.toNat, 13, 0, 0]
def k0_off135 (i : grid0.Coords) : Fin 4 → Nat :=
  let arg0 : BitVec 32 := BitVec.ofNat 32 (i 0).val
  let c3_i32 : BitVec 32 := 3#32
  let v0 : BitVec 32 := Scalar.remsi arg0 c3_i32
  let v1432 : Index := Scalar.indexCast v0
  let c14 : Index := 14#32
  let c0_275 : Index := 0#32
  let c0_276 : Index := 0#32
  ![v1432.toNat, 14, 0, 0]
def k0_off136 (i : grid0.Coords) : Fin 4 → Nat :=
  let arg0 : BitVec 32 := BitVec.ofNat 32 (i 0).val
  let c3_i32 : BitVec 32 := 3#32
  let v0 : BitVec 32 := Scalar.remsi arg0 c3_i32
  let v1439 : Index := Scalar.indexCast v0
  let c15 : Index := 15#32
  let c0_278 : Index := 0#32
  let c0_279 : Index := 0#32
  ![v1439.toNat, 15, 0, 0]
def k0_off137 (i : grid0.Coords) : Fin 1 → Nat :=
  let arg0 : BitVec 32 := BitVec.ofNat 32 (i 0).val
  let c3_i32 : BitVec 32 := 3#32
  let v0 : BitVec 32 := Scalar.remsi arg0 c3_i32
  ![v0.toNat]
def k0_off138 (i : grid0.Coords) : Fin 3 → Nat :=
  let arg0 : BitVec 32 := BitVec.ofNat 32 (i 0).val
  let c16_i32_280 : BitVec 32 := 16#32
  let v1443 : BitVec 32 := Scalar.muli arg0 c16_i32_280
  let c0_i32_281 : BitVec 32 := 0#32
  let c0_i32_282 : BitVec 32 := 0#32
  ![v1443.toNat, 0, 0]
def k0_off139 (i : grid0.Coords) : Fin 4 → Nat :=
  let arg0 : BitVec 32 := BitVec.ofNat 32 (i 0).val
  let c3_i32 : BitVec 32 := 3#32
  let v0 : BitVec 32 := Scalar.remsi arg0 c3_i32
  let c0_i32_283 : BitVec 32 := 0#32
  let c0_i32_284 : BitVec 32 := 0#32
  let c0_i32_285 : BitVec 32 := 0#32
  ![v0.toNat, 0, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S512x1000 : Shape := ⟨2, ![512, 1000]⟩
abbrev S1000x128 : Shape := ⟨2, ![1000, 128]⟩
abbrev S1000 : Shape := ⟨1, ![1000]⟩
abbrev S_ : Shape := ⟨0, ![]⟩
abbrev S1000x1 : Shape := ⟨2, ![1000, 1]⟩
abbrev S1 : Shape := ⟨1, ![1]⟩
abbrev S1x1 : Shape := ⟨2, ![1, 1]⟩
abbrev S512x128 : Shape := ⟨2, ![512, 128]⟩
abbrev S512x1000x1 : Shape := ⟨3, ![512, 1000, 1]⟩
abbrev S1x1000x128 : Shape := ⟨3, ![1, 1000, 128]⟩
abbrev S512x1000x128 : Shape := ⟨3, ![512, 1000, 128]⟩

abbrev nBuf : Space → Nat
  | .hbm => 32
  | .vmem => 0
  | .smem => 0
  | _ => 0

abbrev bufTy : (tb : Table) → Fin (tcTables nBuf tb) → BufTy
  | .hbm, ⟨0, _⟩ => ⟨S512x1000, .f32⟩
  | .hbm, ⟨1, _⟩ => ⟨S1000x128, .f32⟩
  | .hbm, ⟨2, _⟩ => ⟨S1000, .i32⟩
  | .hbm, ⟨3, _⟩ => ⟨S_, .i32⟩
  | .hbm, ⟨4, _⟩ => ⟨S1000, .i32⟩
  | .hbm, ⟨5, _⟩ => ⟨S1000, .i1⟩
  | .hbm, ⟨6, _⟩ => ⟨S_, .i32⟩
  | .hbm, ⟨7, _⟩ => ⟨S1000, .i32⟩
  | .hbm, ⟨8, _⟩ => ⟨S1000, .i32⟩
  | .hbm, ⟨9, _⟩ => ⟨S1000, .i32⟩
  | .hbm, ⟨10, _⟩ => ⟨S1000x1, .i32⟩
  | .hbm, ⟨11, _⟩ => ⟨S1, .i32⟩
  | .hbm, ⟨12, _⟩ => ⟨S_, .i32⟩
  | .hbm, ⟨13, _⟩ => ⟨S1000x1, .i32⟩
  | .hbm, ⟨14, _⟩ => ⟨S1000x1, .i1⟩
  | .hbm, ⟨15, _⟩ => ⟨S1x1, .i32⟩
  | .hbm, ⟨16, _⟩ => ⟨S1000x1, .i32⟩
  | .hbm, ⟨17, _⟩ => ⟨S1000x1, .i1⟩
  | .hbm, ⟨18, _⟩ => ⟨S1000x1, .i1⟩
  | .hbm, ⟨19, _⟩ => ⟨S_, .i1⟩
  | .hbm, ⟨20, _⟩ => ⟨S1000, .i1⟩
  | .hbm, ⟨21, _⟩ => ⟨S1000x128, .f32⟩
  | .hbm, ⟨22, _⟩ => ⟨S1000x128, .i1⟩
  | .hbm, ⟨23, _⟩ => ⟨S_, .f32⟩
  | .hbm, ⟨24, _⟩ => ⟨S1000x128, .f32⟩
  | .hbm, ⟨25, _⟩ => ⟨S1000x128, .f32⟩
  | .hbm, ⟨26, _⟩ => ⟨S512x128, .f32⟩
  | .hbm, ⟨27, _⟩ => ⟨S512x1000x1, .f32⟩
  | .hbm, ⟨28, _⟩ => ⟨S1x1000x128, .f32⟩
  | .hbm, ⟨29, _⟩ => ⟨S512x1000x128, .f32⟩
  | .hbm, ⟨30, _⟩ => ⟨S512x1000x128, .f32⟩
  | .hbm, ⟨31, _⟩ => ⟨S512x1000x128, .f32⟩
  | _, _ => ⟨S512x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩

abbrev nD : Nat := 1
abbrev τ : Topo := Topo.v7x

variable {F : FTy → Type} [FloatOps F]
-- ==== Proof.KernelIdeal.Body.lean ====
/-
  The kernel's body with its unrolled stores folded back into two counted stretches.

  One grid point stores its tile of the broadcast product in 125 + 8 pieces: for the first eight rows of the
  point's block, 125 boxes of eight columns each (all eight rows at once), and for the last eight rows one
  whole row each. The printed body lists them one after another; here each of the two stretches is one
  definition by recursion on the number of stores left, and `body_eq` says that the printed body is this one.
-/
module

public import proofs.«01_k».proof.Proof.Gen.KernelIdeal.Skeleton
public import Idealize.ShloMosaic.Lib.Tactic

@[expose] public section

set_option synthInstance.maxSize 4096
set_option maxRecDepth 16384

noncomputable section

namespace Cert.KernelIdeal.Prod

open Idealize.ShloMosaic Idealize.SL.Sem Idealize.ShloMosaic.Tactic
open Cert.KernelIdeal Cert.KernelIdeal.Gen

variable {F : FTy → Type} [FloatOps F]

/-- The ring slot of a grid point, as the kernel computes it: the point's number modulo three. -/
def slot (i : grid0.Coords) : ℕ := (Scalar.indexCast (Scalar.remsi (BitVec.ofNat 32 (i 0).val) 3#32)).toNat

/-- The slot is one of the three. -/
theorem slot_lt : ∀ i : grid0.Coords, slot i < 3 := by
  unfold slot; decide +kernel

/-- Where the box of columns `8 g … 8 g + 7` of the first eight rows starts in the three-slot buffer. -/
def colOff (i : grid0.Coords) (g : ℕ) : Fin 4 → ℕ := ![slot i, 0, 8 * g, 0]

/-- Where row `8 + r` starts in the three-slot buffer. -/
def rowOff (i : grid0.Coords) (r : ℕ) : Fin 4 → ℕ := ![slot i, 8 + r, 0, 0]

/-- The box of eight columns lies inside the buffer. -/
theorem colOff_inb (i : grid0.Coords) {g : ℕ} (hg : g < 125) (a : Fin 4) : colOff i g a + S1x8x8x128.size a ≤ S3x16x1000x128.size a := by
  have h := slot_lt i
  match a with
  | 0 => show slot i + 1 ≤ 3; omega
  | 1 => show 0 + 8 ≤ 16; omega
  | 2 => show 8 * g + 8 ≤ 1000; omega
  | 3 => show 0 + 128 ≤ 128; omega

/-- The row lies inside the buffer. -/
theorem rowOff_inb (i : grid0.Coords) {r : ℕ} (hr : r < 8) (a : Fin 4) : rowOff i r a + S1x1x1000x128.size a ≤ S3x16x1000x128.size a := by
  have h := slot_lt i
  match a with
  | 0 => show slot i + 1 ≤ 3; omega
  | 1 => show 8 + r + 1 ≤ 16; omega
  | 2 => show 0 + 1000 ≤ 1000; omega
  | 3 => show 0 + 128 ≤ 128; omega

/-- Eight columns of an eight-row block. -/
theorem slices_cols {g : ℕ} (hg : g < 125) : S8x1000.Slices ![0, 8 * g] S8x8 := by
  refine ⟨rfl, fun a => ?_⟩
  match a with
  | 0 => show 0 + 8 ≤ 8; omega
  | 1 => show 8 * g + 8 ≤ 1000; omega

/-- Eight rows of the table. -/
theorem slices_tab {g : ℕ} (hg : g < 125) : S1000x128.Slices ![8 * g, 0] S8x128 := by
  refine ⟨rfl, fun a => ?_⟩
  match a with
  | 0 => show 8 * g + 8 ≤ 1000; omega
  | 1 => show 0 + 128 ≤ 128; omega

/-- One row of a sixteen-row block. -/
theorem slices_row {r : ℕ} (hr : r < 8) : S16x1000.Slices ![8 + r, 0] S1x1000 := by
  refine ⟨rfl, fun a => ?_⟩
  match a with
  | 0 => show 8 + r + 1 ≤ 16; omega
  | 1 => show 0 + 1000 ≤ 1000; omega

/-- What the `g`-th store of the first stretch writes: columns `8 g … 8 g + 7` of the eight rows, each element
    repeated along the table's lanes and multiplied by the table's rows of the same numbers. -/
def colPay (e : Vec F S1000x128 .f32) (xa : FVec F S8x1000 .f32) (g : ℕ) (hg : g < 125) : FVec F S1x8x8x128 .f32 :=
  shapeCast S1x8x8x128
    (mulf
      (broadcastTo S8x8x128 (shapeCast S8x8x1 (extractStridedSlice S8x8 ![0, 8 * g] xa (slices_cols hg)) shapeCasts_S8x8_S8x8x1) broadcasts_S8x8x1_S8x8x128)
      (broadcastTo S8x8x128 (shapeCast S1x8x128 (extractStridedSlice S8x128 ![8 * g, 0] e (slices_tab hg)) shapeCasts_S8x128_S1x8x128) broadcasts_S1x8x128_S8x8x128))
    shapeCasts_S8x8x128_S1x8x8x128

/-- What the `r`-th store of the second stretch writes: row `8 + r` of the narrowed block, spread along the lanes by
    a product with a row of ones, times the table. -/
def rowPay (e : Vec F S1000x128 .f32) (o : FVec F S1x128 .bf16) (xb : FVec F S16x1000 .bf16) (r : ℕ) (hr : r < 8) : FVec F S1x1x1000x128 .f32 :=
  shapeCast S1x1x1000x128
    (mulf
      (matmul dot_S1x1000_S1x128_S1000x128_0_0_1_1_n_n none (extractStridedSlice S1x1000 ![8 + r, 0] xb (slices_row hr)) o (constant S1000x128 .f32 0x00000000#32))
      e)
    shapeCasts_S1000x128_S1x1x1000x128

/-- The first stretch with `n` stores left, then `k`. Each store is preceded by a load whose value is not used. -/
def colStores (i : grid0.Coords) (arg6 : Memref sig .tc .vmem S3x16x1000x128 .f32) (e : Vec F S1000x128 .f32) (xa : FVec F S8x1000 .f32) :
    (n : ℕ) → n ≤ 125 → Prog (TpuEff nD τ sig (Elt F) Λ₀ .tc) PUnit → Prog (TpuEff nD τ sig (Elt F) Λ₀ .tc) PUnit
  | 0, _, k => k
  | n + 1, h, k => do
    let _ ← Prog.lift (.load arg6 (Rect.unit (s := S3x16x1000x128) (colOff i (124 - n)) S1x8x8x128.size (colOff_inb i (by omega))).toLoadRect (View.loadsAt_vmem h_S1x8x8x128))
    Prog.lift (.store arg6 (Rect.unit (s := S3x16x1000x128) (colOff i (124 - n)) S1x8x8x128.size (colOff_inb i (by omega))) (colPay e xa (124 - n) (by omega)) Finset.univ (View.stores_vmem_bits_univ h_S1x8x8x128 rfl) (.inl rfl))
    colStores i arg6 e xa n (by omega) k

/-- The second stretch with `n` stores left, then `k`. -/
def rowStores (i : grid0.Coords) (arg6 : Memref sig .tc .vmem S3x16x1000x128 .f32) (e : Vec F S1000x128 .f32) (o : FVec F S1x128 .bf16) (xb : FVec F S16x1000 .bf16) :
    (n : ℕ) → n ≤ 8 → Prog (TpuEff nD τ sig (Elt F) Λ₀ .tc) PUnit → Prog (TpuEff nD τ sig (Elt F) Λ₀ .tc) PUnit
  | 0, _, k => k
  | n + 1, h, k => do
    let _ ← Prog.lift (.load arg6 (Rect.unit (s := S3x16x1000x128) (rowOff i (7 - n)) S1x1x1000x128.size (rowOff_inb i (by omega))).toLoadRect (View.loadsAt_vmem h_S1x1x1000x128))
    Prog.lift (.store arg6 (Rect.unit (s := S3x16x1000x128) (rowOff i (7 - n)) S1x1x1000x128.size (rowOff_inb i (by omega))) (rowPay e o xb (7 - n) (by omega)) Finset.univ (View.stores_vmem_bits_univ h_S1x1x1000x128 rfl) (.inl rfl))
    rowStores i arg6 e o xb n (by omega) k

/-- The three loads at the head of the body: the table, the row of ones, the point's sixteen rows; then `k` at what they read. -/
def loads (i : grid0.Coords) (arg1 : Memref sig .tc .vmem S512x1000 .f32) (arg2 : Memref sig .tc .vmem S1x128 .bf16) (arg3 : Memref sig .tc .vmem S1000x128 .f32)
    (k : Vec F S1000x128 .f32 → Vec F S1x128 .bf16 → Vec F S16x1000 .f32 → Prog (TpuEff nD τ sig (Elt F) Λ₀ .tc) PUnit) : Prog (TpuEff nD τ sig (Elt F) Λ₀ .tc) PUnit := do
  let e ← Prog.lift (.load arg3 (Rect.unit (s := S1000x128) ![0, 0] S1000x128.size inb_S1000x128_S1000x128_0_0).toLoadRect (View.loadsAt_vmem h_S1000x128))
  let o ← Prog.lift (.load arg2 (Rect.unit (s := S1x128) ![0, 0] S1x128.size inb_S1x128_S1x128_0_0).toLoadRect (View.loadsAt_vmem h_S1x128))
  let x ← Prog.lift (.load arg1 (Rect.unit (s := S512x1000) (k0_off1 i) S16x1000.size (k0_off1_inb i)).toLoadRect (View.loadsAt_vmem h_S16x1000))
  k e o x

/-- The wait for the copy that left the point's slot three points earlier, where there was one. -/
def waitSlot (i : grid0.Coords) (arg5 : Memref sig .tc .hbm S512x1000x128 .f32) (arg6 : Memref sig .tc .vmem S3x16x1000x128 .f32) (arg7 : DmaSems sig S3) : Prog (TpuEff nD τ sig (Elt F) Λ₀ .tc) PUnit :=
  if k0_h1 : k0_cond1 i = 1#1 then
    Prog.lift (.waitDma2 ((arg7.slice (Rect.unit (s := S3) (k0_off2 i) S1.size (k0_off2_inb i k0_h1))).squeeze S_ squeezes_S1_S_).sem
      ((arg6.slice (Rect.unit (s := S3x16x1000x128) (k0_off3 i) S1x16x1000x128.size (k0_off3_inb i k0_h1)) (fun _ => rfl)).squeeze S16x1000x128 squeezes_S1x16x1000x128_S16x1000x128)
      (arg5.slice (Rect.unit (s := S512x1000x128) ![0, 0, 0] S16x1000x128.size inb_S512x1000x128_S16x1000x128_0_0_0) (fun _ => rfl)) ((View.wordExact_bits rfl).reshape _ _) (View.wordExact_bits rfl))
  else
    pure ⟨⟩

/-- The copy of the point's finished tile to its place in the second result is started. -/
def startCopy (i : grid0.Coords) (arg5 : Memref sig .tc .hbm S512x1000x128 .f32) (arg6 : Memref sig .tc .vmem S3x16x1000x128 .f32) (arg7 : DmaSems sig S3) : Prog (TpuEff nD τ sig (Elt F) Λ₀ .tc) PUnit :=
  Prog.lift (.enqueueDma ((arg6.slice (Rect.unit (s := S3x16x1000x128) (k0_off139 i) S1x16x1000x128.size (k0_off139_inb i)) (fun _ => rfl)).squeeze S16x1000x128 squeezes_S1x16x1000x128_S16x1000x128)
    (.here (arg5.slice (Rect.unit (s := S512x1000x128) (k0_off138 i) S16x1000x128.size (k0_off138_inb i)) (fun _ => rfl)))
    (.dma ((arg7.slice (Rect.unit (s := S3) (k0_off137 i) S1.size (k0_off137_inb i))).squeeze S_ squeezes_S1_S_).sem) ((View.wordExact_bits rfl).reshape _ _) (View.wordExact_bits rfl) ⟨Or.inl rfl, trivial⟩)

/-- The block `p` of the first result is stored, after a load whose value is not used. -/
def storeBlock (arg4 : Memref sig .tc .vmem S16x128 .f32) (p : FVec F S16x128 .f32) : Prog (TpuEff nD τ sig (Elt F) Λ₀ .tc) PUnit := do
  let _ ← Prog.lift (.load arg4 (Rect.unit (s := S16x128) ![0, 0] S16x128.size inb_S16x128_S16x128_0_0).toLoadRect (View.loadsAt_vmem h_S16x128))
  Prog.lift (.store arg4 (Rect.unit (s := S16x128) ![0, 0] S16x128.size inb_S16x128_S16x128_0_0) p Finset.univ (View.stores_vmem_bits_univ h_S16x128 rfl) (.inl rfl))

/-- At the last point the three copies still on their way are waited for. -/
def drain (i : grid0.Coords) (arg5 : Memref sig .tc .hbm S512x1000x128 .f32) (arg6 : Memref sig .tc .vmem S3x16x1000x128 .f32) (arg7 : DmaSems sig S3) : Prog (TpuEff nD τ sig (Elt F) Λ₀ .tc) PUnit :=
  if k0_h2 : Scalar.cmpi .ne (Scalar.extui (Scalar.cmpi .eq (BitVec.ofNat 32 (i 0).val) 31#32) : BitVec 32) 0#32 = 1#1 then do
    Prog.lift (.waitDma2 ((arg7.slice (Rect.unit (s := S3) ![0] S1.size inb_S3_S1_0)).squeeze S_ squeezes_S1_S_).sem
      ((arg6.slice (Rect.unit (s := S3x16x1000x128) ![0, 0, 0, 0] S1x16x1000x128.size inb_S3x16x1000x128_S1x16x1000x128_0_0_0_0) (fun _ => rfl)).squeeze S16x1000x128 squeezes_S1x16x1000x128_S16x1000x128)
      (arg5.slice (Rect.unit (s := S512x1000x128) ![0, 0, 0] S16x1000x128.size inb_S512x1000x128_S16x1000x128_0_0_0) (fun _ => rfl)) ((View.wordExact_bits rfl).reshape _ _) (View.wordExact_bits rfl))
    Prog.lift (.waitDma2 ((arg7.slice (Rect.unit (s := S3) ![1] S1.size inb_S3_S1_1)).squeeze S_ squeezes_S1_S_).sem
      ((arg6.slice (Rect.unit (s := S3x16x1000x128) ![1, 0, 0, 0] S1x16x1000x128.size inb_S3x16x1000x128_S1x16x1000x128_1_0_0_0) (fun _ => rfl)).squeeze S16x1000x128 squeezes_S1x16x1000x128_S16x1000x128)
      (arg5.slice (Rect.unit (s := S512x1000x128) ![0, 0, 0] S16x1000x128.size inb_S512x1000x128_S16x1000x128_0_0_0) (fun _ => rfl)) ((View.wordExact_bits rfl).reshape _ _) (View.wordExact_bits rfl))
    Prog.lift (.waitDma2 ((arg7.slice (Rect.unit (s := S3) ![2] S1.size inb_S3_S1_2)).squeeze S_ squeezes_S1_S_).sem
      ((arg6.slice (Rect.unit (s := S3x16x1000x128) ![2, 0, 0, 0] S1x16x1000x128.size inb_S3x16x1000x128_S1x16x1000x128_2_0_0_0) (fun _ => rfl)).squeeze S16x1000x128 squeezes_S1x16x1000x128_S16x1000x128)
      (arg5.slice (Rect.unit (s := S512x1000x128) ![0, 0, 0] S16x1000x128.size inb_S512x1000x128_S16x1000x128_0_0_0) (fun _ => rfl)) ((View.wordExact_bits rfl).reshape _ _) (View.wordExact_bits rfl))
  else
    pure ⟨⟩

/-- What follows the stores, in order. -/
def afterStores (i : grid0.Coords) (arg4 : Memref sig .tc .vmem S16x128 .f32) (arg5 : Memref sig .tc .hbm S512x1000x128 .f32) (arg6 : Memref sig .tc .vmem S3x16x1000x128 .f32) (arg7 : DmaSems sig S3)
    (p : FVec F S16x128 .f32) : Prog (TpuEff nD τ sig (Elt F) Λ₀ .tc) PUnit :=
  startCopy i arg5 arg6 arg7 >>= fun _ => storeBlock arg4 p >>= fun _ => drain i arg5 arg6 arg7

/-- The body: three loads, the wait for the slot's earlier copy when there was one, the two stretches of stores, the rest. -/
def body (i : grid0.Coords) (arg1 : Memref sig .tc .vmem S512x1000 .f32) (arg2 : Memref sig .tc .vmem S1x128 .bf16) (arg3 : Memref sig .tc .vmem S1000x128 .f32) (arg4 : Memref sig .tc .vmem S16x128 .f32)
    (arg5 : Memref sig .tc .hbm S512x1000x128 .f32) (arg6 : Memref sig .tc .vmem S3x16x1000x128 .f32) (arg7 : DmaSems sig S3) : Prog (TpuEff nD τ sig (Elt F) Λ₀ .tc) PUnit :=
  loads i arg1 arg2 arg3 fun e o x => waitSlot i arg5 arg6 arg7 >>= fun _ =>
    colStores i arg6 e (k0_pay3 x) 125 le_rfl
      (rowStores i arg6 e (k0_pay2 o) (k0_pay160 x) 8 le_rfl (afterStores i arg4 arg5 arg6 arg7 (k0_pay1 e x)))

/-- The printed body is this one. -/
theorem body_eq (i : grid0.Coords) (arg1 : Memref sig .tc .vmem S512x1000 .f32) (harg1 : arg1.IsWhole) (arg2 : Memref sig .tc .vmem S1x128 .bf16) (harg2 : arg2.IsWhole) (arg3 : Memref sig .tc .vmem S1000x128 .f32) (harg3 : arg3.IsWhole) (arg4 : Memref sig .tc .vmem S16x128 .f32) (harg4 : arg4.IsWhole) (arg5 : Memref sig .tc .hbm S512x1000x128 .f32) (harg5 : arg5.IsWhole) (arg6 : Memref sig .tc .vmem S3x16x1000x128 .f32) (harg6 : arg6.IsWhole) (arg7 : DmaSems sig S3) :
    cc0__fused_kernel (F := F) i arg1 harg1 arg2 harg2 arg3 harg3 arg4 harg4 arg5 harg5 arg6 harg6 arg7 = body i arg1 arg2 arg3 arg4 arg5 arg6 arg7 := by
  rw [cc0__fused_kernel_eq_skeleton]
  unfold cc0__fused_kernel_skel body loads waitSlot
  by_cases h : k0_cond1 i = 1#1
  · simp only [k0_part34_eq_skeleton, k0_part34_skel, k0_part1_eq_skeleton, k0_part1_skel, dif_pos h]
    sl_kernel_rfl
  · simp only [k0_part34_eq_skeleton, k0_part34_skel, k0_part1_eq_skeleton, k0_part1_skel, dif_neg h]
    sl_kernel_rfl

end Cert.KernelIdeal.Prod

end
-- ==== Proof.KernelIdeal.Stores.lean ====
/-
  The two stretches of stores, and what they leave in the point's tile.

  A tile is the sixteen-row slice of the three-slot buffer that a grid point fills. `Agrees` says that the buffer's slice
  holds given values wherever a predicate on the tile's indices holds; each store of a stretch widens the
  predicate by its box, and at the end of the second stretch it holds everywhere.
-/
module

public import proofs.«01_k».proof.Proof.KernelIdeal.Body
public import Idealize.ShloMosaic.Lib.Pointwise
public import Idealize.ShloMosaic.Lib.Pipeline.FrameBody
public import Idealize.ShloMosaic.Lib.Ring
public import Idealize.ShloMosaic.Lib.Ring.WriteBehind

@[expose] public section

set_option synthInstance.maxSize 4096
set_option maxRecDepth 16384

noncomputable section

namespace Cert.KernelIdeal.Prod

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

/-- The three-slot buffer, whole. -/
abbrev scr : Memref sig .tc .vmem S3x16x1000x128 .f32 := Memref.whole cc0_scratch0

/-- The values of a tile: the first eight rows are products of an element of the block and an element of the table, the
    last eight are the second stretch's rows. -/
def tileVal (e : Vec F S1000x128 .f32) (o : Vec F S1x128 .bf16) (x : Vec F S16x1000 .f32) : Vec F S16x1000x128 .f32 := fun y =>
  if h : (y 0).val < 8 then FloatOps.mulf (x (ix2 (y 0) (y 1))) (e (ix2 (y 1) (y 2)))
  else rowPay e (k0_pay2 o) (k0_pay160 x) ((y 0).val - 8) (by have h16 : (y 0).val < 16 := (y 0).isLt; omega) (ix4 0 0 (y 1) (y 2))

/-- A box of eight columns holds the tile's values. -/
theorem colPay_tileVal (e : Vec F S1000x128 .f32) (o : Vec F S1x128 .bf16) (x : Vec F S16x1000 .f32) (g : ℕ) (hg : g < 125)
    (j : S1x8x8x128.Idx) (y : S16x1000x128.Idx) (h0 : (y 0).val = (j 1).val) (h1 : (y 1).val = 8 * g + (j 2).val) (h2 : (y 2).val = (j 3).val) :
    colPay e (k0_pay3 x) g hg j = tileVal e o x y := by
  idx_vars j
  idx_vars y
  have hb : (j1 : ℕ) < 8 := j1.isLt
  replace h0 : y0.val = j1.val := h0
  replace h1 : y1.val = 8 * g + j2.val := h1
  replace h2 : y2.val = j3.val := h2
  unfold tileVal
  rw [dif_pos (by show (y0 : ℕ) < 8; omega)]
  pointwise [colPay, k0_pay3]
  congr 2 <;> idx_ext <;> first | omega | exact Fin.ext (by dsimp; omega)

/-- A row of the second stretch holds the tile's values. -/
theorem rowPay_tileVal (e : Vec F S1000x128 .f32) (o : Vec F S1x128 .bf16) (x : Vec F S16x1000 .f32) (r : ℕ) (hr : r < 8)
    (j : S1x1x1000x128.Idx) (y : S16x1000x128.Idx) (h0 : (y 0).val = 8 + r) (h1 : (y 1).val = (j 2).val) (h2 : (y 2).val = (j 3).val) :
    rowPay e (k0_pay2 o) (k0_pay160 x) r hr j = tileVal e o x y := by
  obtain rfl : r = (y 0).val - 8 := by omega
  unfold tileVal
  rw [dif_neg (by omega)]
  refine congrArg _ (funext fun a => Fin.ext ?_)
  match a with
  | 0 => have : (j 0).val < 1 := (j 0).isLt; show (j 0).val = 0; omega
  | 1 => have : (j 1).val < 1 := (j 1).isLt; show (j 1).val = 0; omega
  | 2 => exact h1.symm
  | 3 => exact h2.symm

/-- The buffer index of a tile index, in slot `s`. -/
def atSlot (s : ℕ) (hs : s < 3) (y : S16x1000x128.Idx) : S3x16x1000x128.Idx := ix4 ⟨s, hs⟩ (y 0) (y 1) (y 2)

/-- Slot `s` of the buffer holds the values `T` wherever `P` holds. -/
def Agrees (T : Vec F S16x1000x128 .f32) (s : ℕ) (hs : s < 3) (P : S16x1000x128.Idx → Prop) (f : scr.view.ty.Contents (Elt F)) : Prop :=
  ∀ y, P y → scr.view.read (Elt F) f (atSlot s hs y) = T y

/-- A store of a box of the slot whose elements are `T`'s widens the predicate by the box. -/
theorem Agrees.store {T : Vec F S16x1000x128 .f32} {s : ℕ} {hs : s < 3} {P P' : S16x1000x128.Idx → Prop} {f : scr.view.ty.Contents (Elt F)}
    (h : Agrees T s hs P f) (r : Rect S3x16x1000x128) (w : r.shape.Idx → Elt F .f32)
    (hw : ∀ j y, r.emb j = atSlot s hs y → w j = T y) (hP : ∀ y, P' y → P y ∨ atSlot s hs y ∈ r.set) :
    Agrees T s hs P' ((scr.access r).write (Elt F) f w Finset.univ) := by
  intro y hy
  by_cases hm : atSlot s hs y ∈ r.set
  · obtain ⟨j, hj⟩ := r.exists_idx_of_mem hm
    rw [← hw j y hj]
    exact (congrArg _ hj.symm).trans (View.read_slice_write_emb (v := scr.view) r f w (Finset.mem_univ j))
  · exact (View.read_slice_write_of_not_mem (v := scr.view) r f w _ (by rwa [Rect.map_emb_univ])).trans (h y ((hP y hy).resolve_right hm))

section Wp
variable (c : Dev nD)

/-- A load whose value is not used and a store of the same box: the buffer's elements come back with the store's. -/
theorem wp_touch (S : Finset (Idx (scr.view.loc (c : Thread nD τ)))) (r : Rect S3x16x1000x128) (hl : scr.view.LoadsAt r.toLoadRect) (w : r.shape.Idx → Elt F .f32)
    (hx : (scr.access r).Stores Finset.univ) (hm : Finset.univ = Finset.univ ∨ ∀ a, r.stride a = 1)
    (hsub : (scr.access r).set ⊆ S) (f : Buf (Elt F) (scr.view.loc (c : Thread nD τ)))
    (k : Prog (TpuEff nD τ sig (Elt F) Λ₀ .tc) PUnit) (Q : PUnit → sProp 𝕄) :
    (scr.view.loc (c : Thread nD τ) ↦[S]{fullShare} f)
      ⊢ iprop(((scr.view.loc (c : Thread nD τ) ↦[S]{fullShare} ((scr.access r).write (Elt F) f w Finset.univ)) -∗ wp frame (wpE (defs₀ (F := F)) Variants.none c none) Set.univ k Q)
        -∗ wp frame (wpE (defs₀ (F := F)) Variants.none c none) Set.univ
          (do let _ ← Prog.lift (.load scr r.toLoadRect hl); Prog.lift (.store scr r w Finset.univ hx hm); k) Q) := by
  iintro H Hk
  iapply (wp_load_rect (Q := Q) Variants.none (c : Thread nD τ) none Set.univ (m := scr) (r := r) (S := S) (q := fullShare) (f := f) hsub) $$ H
  iintro H
  iapply (wp_store (Q := Q) Variants.none (c : Thread nD τ) none Set.univ (m := scr) (r := r) (S := S) (f := f) (((scr.access r).setOn_subset_set _).trans hsub)) $$ H
  iexact Hk

variable (i : grid0.Coords)

/-- The box of a point's slot. -/
def slotBox : Rect S3x16x1000x128 := Rect.unit (s := S3x16x1000x128) ![slot i, 0, 0, 0] S1x16x1000x128.size
  (by have := slot_lt i; intro a; match a with | 0 => show slot i + 1 ≤ 3; omega | 1 => exact le_rfl | 2 => exact le_rfl | 3 => exact le_rfl)

/-- A box of eight columns, and the row box of the second stretch. -/
def colBox (g : ℕ) (hg : g < 125) : Rect S3x16x1000x128 := Rect.unit (s := S3x16x1000x128) (colOff i g) S1x8x8x128.size (colOff_inb i hg)
@[inherit_doc colBox] def rowBox (r : ℕ) (hr : r < 8) : Rect S3x16x1000x128 := Rect.unit (s := S3x16x1000x128) (rowOff i r) S1x1x1000x128.size (rowOff_inb i hr)

/-- A set of indices whose first coordinate is the point's slot lies in the slot's box. -/
theorem mem_slotBox {z : S3x16x1000x128.Idx} (h : (z 0).val = slot i) : z ∈ (slotBox i).set := by
  refine Rect.mem_set_unit.mpr fun a => ?_
  match a with
  | 0 => exact ⟨h.ge, by show (z 0).val < slot i + 1; omega⟩
  | 1 => exact ⟨Nat.zero_le _, by have : (z 1).val < 16 := (z 1).isLt; show (z 1).val < 0 + 16; omega⟩
  | 2 => exact ⟨Nat.zero_le _, by have : (z 2).val < 1000 := (z 2).isLt; show (z 2).val < 0 + 1000; omega⟩
  | 3 => exact ⟨Nat.zero_le _, by have : (z 3).val < 128 := (z 3).isLt; show (z 3).val < 0 + 128; omega⟩

/-- Both lie in the slot's box. -/
theorem colBox_sub (g : ℕ) (hg : g < 125) : (colBox i g hg).set ⊆ (slotBox i).set := fun z hz => by
  have h : slot i ≤ (z 0).val ∧ (z 0).val < slot i + 1 := Rect.mem_set_unit.mp hz 0
  exact mem_slotBox i (by omega)
@[inherit_doc colBox_sub] theorem rowBox_sub (r : ℕ) (hr : r < 8) : (rowBox i r hr).set ⊆ (slotBox i).set := fun z hz => by
  have h : slot i ≤ (z 0).val ∧ (z 0).val < slot i + 1 := Rect.mem_set_unit.mp hz 0
  exact mem_slotBox i (by omega)

/-- A box inside the slot's box is inside the slot's elements of the buffer. -/
theorem access_sub {r : Rect S3x16x1000x128} (h : r.set ⊆ (slotBox i).set) : (scr.access r).set ⊆ (scr.access (slotBox i)).set := by
  show (scr.view.slice r).set ⊆ (scr.view.slice (slotBox i)).set
  rw [View.set_slice, View.set_slice]
  exact Finset.map_subset_map.mpr h

/-- The elements of the point's slot. -/
abbrev slotSet : Finset (Idx (scr.view.loc (c : Thread nD τ))) := (scr.access (slotBox i)).set

/-- The first stretch: it fills the first eight rows. -/
theorem wp_colStores (e : Vec F S1000x128 .f32) (xa : FVec F S8x1000 .f32) (T : Vec F S16x1000x128 .f32)
    (hT : ∀ g hg (j : S1x8x8x128.Idx) (y : S16x1000x128.Idx), (y 0).val = (j 1).val → (y 1).val = 8 * g + (j 2).val → (y 2).val = (j 3).val → colPay e xa g hg j = T y)
    (k : Prog (TpuEff nD τ sig (Elt F) Λ₀ .tc) PUnit) (Q : PUnit → sProp 𝕄) :
    ∀ (n : ℕ) (hn : n ≤ 125) (f : Buf (Elt F) (scr.view.loc (c : Thread nD τ))), Agrees T (slot i) (slot_lt i) (fun y => (y 0).val < 8 ∧ (y 1).val < 8 * (125 - n)) f →
      (scr.view.loc (c : Thread nD τ) ↦[slotSet c i]{fullShare} f)
        ⊢ iprop((∀ f', ⌜Agrees T (slot i) (slot_lt i) (fun y => (y 0).val < 8) f'⌝ -∗ (scr.view.loc (c : Thread nD τ) ↦[slotSet c i]{fullShare} f') -∗ wp frame (wpE (defs₀ (F := F)) Variants.none c none) Set.univ k Q)
          -∗ wp frame (wpE (defs₀ (F := F)) Variants.none c none) Set.univ (colStores i scr e xa n hn k) Q) := by
  intro n
  induction n with
  | zero =>
    intro hn f hf
    iintro H Hk
    unfold colStores
    iapply Hk $$ [] [H]
    · ipureintro
      exact fun y hy => hf y ⟨hy, (y 1).isLt⟩
    · iexact H
  | succ n ih =>
    intro hn f hf
    have hg : 124 - n < 125 := by omega
    have hstep : Agrees T (slot i) (slot_lt i) (fun y => (y 0).val < 8 ∧ (y 1).val < 8 * (125 - n))
        ((scr.access (colBox i (124 - n) hg)).write (Elt F) f (colPay e xa (124 - n) hg) Finset.univ) := by
      refine hf.store (colBox i (124 - n) hg) (colPay e xa (124 - n) hg) (fun j y hj => hT _ _ j y ?_ ?_ ?_) (fun y hy => ?_)
      · have h : 0 + 1 * (j 1).val = (y 0).val := congrArg Fin.val (congrFun hj 1)
        omega
      · have h : 8 * (124 - n) + 1 * (j 2).val = (y 1).val := congrArg Fin.val (congrFun hj 2)
        omega
      · have h : 0 + 1 * (j 3).val = (y 2).val := congrArg Fin.val (congrFun hj 3)
        omega
      · by_cases hl : (y 1).val < 8 * (124 - n)
        · exact .inl ⟨hy.1, by omega⟩
        · refine .inr (Rect.mem_set_unit.mpr fun a => ?_)
          have h0 := hy.1
          have h1 := hy.2
          match a with
          | 0 => exact ⟨le_rfl, Nat.lt_succ_self _⟩
          | 1 => exact ⟨Nat.zero_le _, by show (y 0).val < 0 + 8; omega⟩
          | 2 => exact ⟨by show 8 * (124 - n) ≤ (y 1).val; omega, by show (y 1).val < 8 * (124 - n) + 8; omega⟩
          | 3 => exact ⟨Nat.zero_le _, by have : (y 2).val < 128 := (y 2).isLt; show (y 2).val < 0 + 128; omega⟩
    iintro H Hk
    unfold colStores
    iapply (wp_touch c (slotSet c i) (colBox i (124 - n) hg) (View.loadsAt_vmem h_S1x8x8x128) (colPay e xa (124 - n) hg) (View.stores_vmem_bits_univ h_S1x8x8x128 rfl) (.inl rfl)
      (access_sub i (colBox_sub i _ _)) f _ Q) $$ H
    iintro H
    iapply (ih _ _ hstep) $$ H Hk

/-- The second stretch, from a buffer whose first eight rows are filled: it fills the other eight. -/
theorem wp_rowStores (e : Vec F S1000x128 .f32) (o : FVec F S1x128 .bf16) (xb : FVec F S16x1000 .bf16) (T : Vec F S16x1000x128 .f32)
    (hT : ∀ r hr (j : S1x1x1000x128.Idx) (y : S16x1000x128.Idx), (y 0).val = 8 + r → (y 1).val = (j 2).val → (y 2).val = (j 3).val → rowPay e o xb r hr j = T y)
    (k : Prog (TpuEff nD τ sig (Elt F) Λ₀ .tc) PUnit) (Q : PUnit → sProp 𝕄) :
    ∀ (n : ℕ) (hn : n ≤ 8) (f : Buf (Elt F) (scr.view.loc (c : Thread nD τ))), Agrees T (slot i) (slot_lt i) (fun y => (y 0).val < 16 - n) f →
      (scr.view.loc (c : Thread nD τ) ↦[slotSet c i]{fullShare} f)
        ⊢ iprop((∀ f', ⌜Agrees T (slot i) (slot_lt i) (fun _ => True) f'⌝ -∗ (scr.view.loc (c : Thread nD τ) ↦[slotSet c i]{fullShare} f') -∗ wp frame (wpE (defs₀ (F := F)) Variants.none c none) Set.univ k Q)
          -∗ wp frame (wpE (defs₀ (F := F)) Variants.none c none) Set.univ (rowStores i scr e o xb n hn k) Q) := by
  intro n
  induction n with
  | zero =>
    intro hn f hf
    iintro H Hk
    unfold rowStores
    iapply Hk $$ [] [H]
    · ipureintro
      exact fun y _ => hf y (y 0).isLt
    · iexact H
  | succ n ih =>
    intro hn f hf
    have hr : 7 - n < 8 := by omega
    have hstep : Agrees T (slot i) (slot_lt i) (fun y => (y 0).val < 16 - n)
        ((scr.access (rowBox i (7 - n) hr)).write (Elt F) f (rowPay e o xb (7 - n) hr) Finset.univ) := by
      refine hf.store (rowBox i (7 - n) hr) (rowPay e o xb (7 - n) hr) (fun j y hj => hT _ _ j y ?_ ?_ ?_) (fun y hy => ?_)
      · have h : 8 + (7 - n) + 1 * (j 1).val = (y 0).val := congrArg Fin.val (congrFun hj 1)
        have : (j 1).val < 1 := (j 1).isLt
        omega
      · have h : 0 + 1 * (j 2).val = (y 1).val := congrArg Fin.val (congrFun hj 2)
        omega
      · have h : 0 + 1 * (j 3).val = (y 2).val := congrArg Fin.val (congrFun hj 3)
        omega
      · by_cases hl : (y 0).val < 16 - (n + 1)
        · exact .inl hl
        · refine .inr (Rect.mem_set_unit.mpr fun a => ?_)
          match a with
          | 0 => exact ⟨le_rfl, Nat.lt_succ_self _⟩
          | 1 => exact ⟨by show 8 + (7 - n) ≤ (y 0).val; omega, by show (y 0).val < 8 + (7 - n) + 1; omega⟩
          | 2 => exact ⟨Nat.zero_le _, by have : (y 1).val < 1000 := (y 1).isLt; show (y 1).val < 0 + 1000; omega⟩
          | 3 => exact ⟨Nat.zero_le _, by have : (y 2).val < 128 := (y 2).isLt; show (y 2).val < 0 + 128; omega⟩
    iintro H Hk
    unfold rowStores
    iapply (wp_touch c (slotSet c i) (rowBox i (7 - n) hr) (View.loadsAt_vmem h_S1x1x1000x128) (rowPay e o xb (7 - n) hr) (View.stores_vmem_bits_univ h_S1x1x1000x128 rfl) (.inl rfl)
      (access_sub i (rowBox_sub i _ _)) f _ Q) $$ H
    iintro H
    iapply (ih _ _ hstep) $$ H Hk
end Wp

end Cert.KernelIdeal.Prod

end
-- ==== Proof.KernelIdeal.Setup.lean ====
/-
  The set-up of the kernel's copies: the slots of the three-slot buffer, the blocks of the second result they are copied
  to, the semaphore each copy is counted on, and the forms in which the body names them at a point. Also the two
  conditions of the body in closed form.
-/
module

public import proofs.«01_k».proof.Proof.KernelIdeal.Stores
public import proofs.«01_k».proof.Proof.Gen.KernelIdeal.Launch
public import Idealize.ShloMosaic.Lib.Pipeline.FrameBody
public import Idealize.ShloMosaic.Lib.Pipeline.FrameValue
public import Idealize.ShloMosaic.Lib.Ring
public import Idealize.ShloMosaic.Lib.Ring.WriteBehind
public import Idealize.ShloMosaic.Lib.Tactic
public import Idealize.ShloMosaic.Lib.WordCmp

@[expose] public section

set_option synthInstance.maxSize 4096
set_option maxRecDepth 16384

noncomputable section

namespace Cert.KernelIdeal.Prod

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

instance : NeZero grid0.N := ⟨by rw [N_0]; decide⟩

/-! ## The two conditions -/

/-- The body waits for a slot's earlier copy. -/
abbrev condWait (i : grid0.Coords) : Prop := k0_cond1 i = 1#1
/-- It does from the fourth point on. -/
theorem condWait_iff : ∀ t : Fin cfg0.N, condWait (grid0.coords t) ↔ 3 ≤ t.val :=
  (by decide +kernel : ∀ t : Fin grid0.N, condWait (grid0.coords t) ↔ 3 ≤ t.val)

/-- The body waits for the copies still on their way. -/
abbrev condEnd (i : grid0.Coords) : Prop := (Scalar.cmpi .ne (Scalar.extui (Scalar.cmpi .eq (BitVec.ofNat 32 (i 0).val) 31#32)) 0#32) = 1#1
/-- It does at the last point. -/
theorem condEnd_iff : ∀ t : Fin cfg0.N, condEnd (grid0.coords t) ↔ t.val = 31 :=
  (by decide +kernel : ∀ t : Fin grid0.N, condEnd (grid0.coords t) ↔ t.val = 31)

/-! ## Slots, blocks, semaphores -/

/-- The second result, whole. -/
abbrev out : Memref sig .tc .hbm S512x1000x128 .f32 := Memref.whole main_v1_1

theorem tile_inb (g : Fin 3) : ∀ a, (![g.val, 0, 0, 0] : Fin 4 → Nat) a + S1x16x1000x128.size a ≤ S3x16x1000x128.size a := by
  have := g.isLt; intro a; fin_cases a <;> simp <;> omega
theorem piece_inb (u : Fin 32) : ∀ a, (![16 * u.val, 0, 0] : Fin 3 → Nat) a + S16x1000x128.size a ≤ S512x1000x128.size a := by
  have := u.isLt; intro a; fin_cases a <;> simp <;> omega
theorem cell_inb (g : Fin 3) : ∀ a, (![g.val] : Fin 1 → Nat) a + S1.size a ≤ S3.size a := by
  have := g.isLt; intro a; fin_cases a <;> simp <;> omega

/-- Slot `g`, as a tile: what a copy reads. -/
def tile (g : Fin 3) : Memref sig .tc .vmem S16x1000x128 .f32 :=
  (scr.slice (Rect.unit (s := S3x16x1000x128) ![g.val, 0, 0, 0] S1x16x1000x128.size (tile_inb g)) (fun _ => rfl)).squeeze S16x1000x128 squeezes_S1x16x1000x128_S16x1000x128
/-- Block `u` of the second result: what point `u`'s copy writes. -/
def piece (u : Fin 32) : Memref sig .tc .hbm S16x1000x128 .f32 :=
  out.slice (Rect.unit (s := S512x1000x128) ![16 * u.val, 0, 0] S16x1000x128.size (piece_inb u)) (fun _ => rfl)
/-- The semaphore slot `g`'s copies are counted on. -/
def cell (g : Fin 3) : DmaSems sig S_ := (cc0_scratch1.slice (Rect.unit (s := S3) ![g.val] S1.size (cell_inb g))).squeeze S_ squeezes_S1_S_
abbrev cellR (g : Fin 3) : SemLoc sig := SemLoc.dma (cell g).sem
theorem cellR_0 : cellR 0 = SemLoc.dma 5 := by decide
theorem cellR_1 : cellR 1 = SemLoc.dma 6 := by decide
theorem cellR_2 : cellR 2 = SemLoc.dma 7 := by decide

/-! ### Slots and blocks as sets of indices -/

/-- The indices of slot `g`, and of block `u`. -/
abbrev tileSet (g : Fin 3) : Finset S3x16x1000x128.Idx := (Rect.unit (s := S3x16x1000x128) ![g.val, 0, 0, 0] S1x16x1000x128.size (tile_inb g)).set
@[inherit_doc tileSet] abbrev pieceSet (u : Fin 32) : Finset S512x1000x128.Idx := (Rect.unit (s := S512x1000x128) ![16 * u.val, 0, 0] S16x1000x128.size (piece_inb u)).set
theorem tile_set (g : Fin 3) : (tile g).view.set = tileSet g := by
  simp only [tile, Memref.view_squeeze, View.set_reshape]; exact View.set_slice_whole _ _
theorem piece_set (u : Fin 32) : (piece u).view.set = pieceSet u := View.set_slice_whole _ _

/-- Slot `g` is the indices with first coordinate `g`. -/
theorem mem_tileSet (g : Fin 3) (z : S3x16x1000x128.Idx) : z ∈ tileSet g ↔ (z 0).val = g.val := by
  rw [Rect.mem_set_unit]
  constructor
  · intro h
    have h0 : g.val ≤ (z 0).val ∧ (z 0).val < g.val + 1 := h 0
    omega
  · intro h a
    match a with
    | 0 => exact ⟨h.ge, by show (z 0).val < g.val + 1; omega⟩
    | 1 => exact ⟨Nat.zero_le _, by have : (z 1).val < 16 := (z 1).isLt; show (z 1).val < 0 + 16; omega⟩
    | 2 => exact ⟨Nat.zero_le _, by have : (z 2).val < 1000 := (z 2).isLt; show (z 2).val < 0 + 1000; omega⟩
    | 3 => exact ⟨Nat.zero_le _, by have : (z 3).val < 128 := (z 3).isLt; show (z 3).val < 0 + 128; omega⟩

/-- Block `u` is the sixteen rows from `16 * u`. -/
theorem mem_pieceSet (u : Fin 32) (z : S512x1000x128.Idx) : z ∈ pieceSet u ↔ (z 0).val / 16 = u.val := by
  rw [Rect.mem_set_unit]
  constructor
  · intro h
    have h0 : 16 * u.val ≤ (z 0).val ∧ (z 0).val < 16 * u.val + 16 := h 0
    omega
  · intro h a
    match a with
    | 0 => exact ⟨by show 16 * u.val ≤ (z 0).val; omega, by show (z 0).val < 16 * u.val + 16; omega⟩
    | 1 => exact ⟨Nat.zero_le _, by have : (z 1).val < 1000 := (z 1).isLt; show (z 1).val < 0 + 1000; omega⟩
    | 2 => exact ⟨Nat.zero_le _, by have : (z 2).val < 128 := (z 2).isLt; show (z 2).val < 0 + 128; omega⟩

/-- The slots are disjoint and are the whole buffer; so are the blocks. -/
theorem tileSet_disjoint (g g' : Fin 3) (h : g ≠ g') : Disjoint (tileSet g) (tileSet g') :=
  Finset.disjoint_left.mpr fun z hz hz' => h (Fin.ext (((mem_tileSet g z).mp hz).symm.trans ((mem_tileSet g' z).mp hz')))
@[inherit_doc tileSet_disjoint] theorem tileSet_cover : Finset.univ.biUnion tileSet = Finset.univ :=
  Finset.eq_univ_iff_forall.mpr fun z => Finset.mem_biUnion.mpr ⟨⟨(z 0).val, (z 0).isLt⟩, Finset.mem_univ _, (mem_tileSet _ z).mpr rfl⟩
@[inherit_doc tileSet_disjoint] theorem pieceSet_disjoint (u u' : Fin 32) (h : u ≠ u') : Disjoint (pieceSet u) (pieceSet u') :=
  Finset.disjoint_left.mpr fun z hz hz' => h (Fin.ext (((mem_pieceSet u z).mp hz).symm.trans ((mem_pieceSet u' z).mp hz')))
@[inherit_doc tileSet_disjoint] theorem pieceSet_cover : Finset.univ.biUnion pieceSet = Finset.univ :=
  Finset.eq_univ_iff_forall.mpr fun z => Finset.mem_biUnion.mpr ⟨⟨(z 0).val / 16, by have : (z 0).val < 512 := (z 0).isLt; omega⟩, Finset.mem_univ _, (mem_pieceSet _ z).mpr rfl⟩

/-! ## What is held of them -/

section Held
variable (c : Dev nD)

/-- The contents of a memref's buffer on a core. -/
abbrev Cont {sp : Space} {S : Shape} {e : EltTy} (M : Memref sig .tc sp S e) : Type := Buf (Elt F) (M.view.loc (c : Thread nD τ))

/-- Slot `g` held at `e`; its semaphore at zero; block `u` held at `f`. -/
abbrev tileP (g : Fin 3) (e : Cont (F := F) c (tile g)) : sProp 𝕄 := (tile g).view.loc (c : Thread nD τ) ↦[(tile g).view.set]{fullShare} e
@[inherit_doc tileP] abbrev cellP (g : Fin 3) : sProp 𝕄 := semVal ((c : Thread nD τ), cellR g) 0
@[inherit_doc tileP] abbrev pieceP (u : Fin 32) (f : Cont (F := F) c (piece u)) : sProp 𝕄 := (piece u).view.loc (c : Thread nD τ) ↦[(piece u).view.set]{fullShare} f

/-- Block `u`'s contents are `T`. -/
def Holds (T : Vec F S16x1000x128 .f32) (u : Fin 32) (f : Cont (F := F) c (piece u)) : Prop := ∀ y, (piece u).view.read (Elt F) f y = T y

theorem tileP_eq (g : Fin 3) (e) : tileP (F := F) c g e = (((c : Thread nD τ).loc cc0_scratch0) ↦[tileSet g]{fullShare} e : sProp 𝕄) := by
  unfold tileP; rw [tile_set]; rfl
theorem pieceP_eq (u : Fin 32) (f) : pieceP (F := F) c u f = (((c : Thread nD τ).loc main_v1_1) ↦[pieceSet u]{fullShare} f : sProp 𝕄) := by
  unfold pieceP; rw [piece_set]; rfl
theorem cellP_0 : cellP (F := F) c 0 = semVal ((c : Thread nD τ), SemLoc.dma 5) 0 := congrArg (fun x => (semVal ((c : Thread nD τ), x) 0 : sProp 𝕄)) cellR_0
theorem cellP_1 : cellP (F := F) c 1 = semVal ((c : Thread nD τ), SemLoc.dma 6) 0 := congrArg (fun x => (semVal ((c : Thread nD τ), x) 0 : sProp 𝕄)) cellR_1
theorem cellP_2 : cellP (F := F) c 2 = semVal ((c : Thread nD τ), SemLoc.dma 7) 0 := congrArg (fun x => (semVal ((c : Thread nD τ), x) 0 : sProp 𝕄)) cellR_2
end Held

/-! ## The body's names at a point -/

section Names
omit [FloatOps F]

theorem slot_coords : ∀ t : Fin grid0.N, slot (grid0.coords t) = (Ring.sl 3 t.val).val := by decide +kernel
theorem row_coords : ∀ t : Fin grid0.N, k0_off1 (grid0.coords t) = ![16 * t.val, 0] := by decide +kernel
theorem off137_coords : ∀ t : Fin grid0.N, k0_off137 (grid0.coords t) = ![(Ring.sl 3 t.val).val] := by decide +kernel
theorem off139_coords : ∀ t : Fin grid0.N, k0_off139 (grid0.coords t) = ![(Ring.sl 3 t.val).val, 0, 0, 0] := by decide +kernel
theorem off138_coords : ∀ t : Fin grid0.N, k0_off138 (grid0.coords t) = ![16 * (Ring.bk 32 t.val).val, 0, 0] := by decide +kernel
theorem off2_coords : ∀ t : Fin grid0.N, k0_off2 (grid0.coords t) = ![(Ring.sl 3 t.val).val] := by decide +kernel
theorem off3_coords : ∀ t : Fin grid0.N, k0_off3 (grid0.coords t) = ![(Ring.sl 3 t.val).val, 0, 0, 0] := by decide +kernel

/-- A semaphore named at offsets that are `![g]` is slot `g`'s; a slice of the buffer at `![g, 0, 0, 0]` is slot `g`; a
    slice of the result at `![16 * u, 0, 0]` is block `u`. -/
theorem cell_of {off : Fin 1 → Nat} {g : Fin 3} (h : off = ![g.val]) (inb) :
    (cc0_scratch1.slice (Rect.unit (s := S3) off S1.size inb)).squeeze S_ squeezes_S1_S_ = cell g :=
  congrArg (fun A : DmaSems sig S1 => A.squeeze S_ squeezes_S1_S_) (SemArray.slice_unit_congr _ h _ _)
@[inherit_doc cell_of] theorem tile_of {off : Fin 4 → Nat} {g : Fin 3} (h : off = ![g.val, 0, 0, 0]) (inb) :
    (scr.slice (Rect.unit (s := S3x16x1000x128) off S1x16x1000x128.size inb) (fun _ => rfl)).squeeze S16x1000x128 squeezes_S1x16x1000x128_S16x1000x128 = tile g :=
  congrArg (fun M : Memref sig .tc .vmem S1x16x1000x128 .f32 => M.squeeze S16x1000x128 squeezes_S1x16x1000x128_S16x1000x128) (Memref.slice_unit_congr _ h _ _ (fun _ => rfl) (fun _ => rfl))
@[inherit_doc cell_of] theorem piece_of {off : Fin 3 → Nat} {u : Fin 32} (h : off = ![16 * u.val, 0, 0]) (inb) :
    out.slice (Rect.unit (s := S512x1000x128) off S16x1000x128.size inb) (fun _ => rfl) = piece u :=
  Memref.slice_unit_congr _ h _ _ (fun _ => rfl) (fun _ => rfl)

end Names

end Cert.KernelIdeal.Prod

end
-- ==== Proof.KernelIdeal.Copies.lean ====
/-
  The body's copies, one at a time: a copy of a slot to a block started, and one waited for.
-/
module

public import proofs.«01_k».proof.Proof.KernelIdeal.Setup

@[expose] public section

set_option synthInstance.maxSize 4096
set_option maxRecDepth 16384

noncomputable section

namespace Cert.KernelIdeal.Prod

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Flights
variable (c : Dev nD)

/-- Slot `g` free: its semaphore at zero, its contents anything. -/
abbrev free (g : Fin 3) : sProp 𝕄 := iprop(cellP (F := F) c g ∗ ∃ e, tileP (F := F) c g e)
/-- Slot `g` on its way to block `u`, which the copy leaves at `T u`. -/
abbrev infl (T : Fin 32 → Vec F S16x1000x128 .f32) (g : Fin 3) (u : Fin 32) : sProp 𝕄 :=
  iprop(∃ f e, ⌜Holds (F := F) c (T u) u f⌝ ∗ Transfers.Flight countersEmb (c : Thread nD τ) (cellR g) default ((piece u).view.amount (cellR g)) iprop(pieceP c u f ∗ tileP c g e))
/-- Block `u` not yet written: its contents anything; and written: at `T u`. -/
abbrev ahead (u : Fin 32) : sProp 𝕄 := iprop(∃ f, pieceP (F := F) c u f)
@[inherit_doc ahead] abbrev behind (T : Fin 32 → Vec F S16x1000x128 .f32) (u : Fin 32) : sProp 𝕄 := iprop(∃ f, ⌜Holds (F := F) c (T u) u f⌝ ∗ pieceP c u f)

set_option maxHeartbeats 1000000 in
/-- A copy waited for: its slot is free again and its block is written. The block the wait names only counts elements. -/
theorem wp_wait (T : Fin 32 → Vec F S16x1000x128 .f32) (g : Fin 3) (u : Fin 32) {o1 : Fin 1 → Nat} (h1 : o1 = ![g.val]) (i1) {o4 : Fin 4 → Nat} (h4 : o4 = ![g.val, 0, 0, 0]) (i4) (hw hw')
    (k : PUnit → Prog (TpuEff nD τ sig (Elt F) Λ₀ .tc) PUnit) (W : Waits sig Unit) (Q : PUnit → sProp 𝕄) :
    iprop(infl (F := F) c T g u ∗ owes (c : Thread nD τ) 0 W)
      ⊢ iprop((free (F := F) c g -∗ behind (F := F) c T u -∗ (∃ W', owes (c : Thread nD τ) 0 W') -∗ wp frame (wpE (defs₀ (F := F)) Variants.none c none) Set.univ (k ⟨⟩) Q)
        -∗ wp frame (wpE (defs₀ (F := F)) Variants.none c none) Set.univ
          (Prog.lift (.waitDma2 ((cc0_scratch1.slice (Rect.unit (s := S3) o1 S1.size i1)).squeeze S_ squeezes_S1_S_).sem
            ((scr.slice (Rect.unit (s := S3x16x1000x128) o4 S1x16x1000x128.size i4) (fun _ => rfl)).squeeze S16x1000x128 squeezes_S1x16x1000x128_S16x1000x128)
            (out.slice (Rect.unit (s := S512x1000x128) ![0, 0, 0] S16x1000x128.size inb_S512x1000x128_S16x1000x128_0_0_0) (fun _ => rfl)) hw hw') >>= k) Q) := by
  subst h1 h4
  change _ ⊢ iprop(_ -∗ wp frame (wpE (defs₀ (F := F)) Variants.none c none) Set.univ (.op (.waitDma2 (cell g).sem (tile g) _ hw hw') k) Q)
  iintro ⟨⟨%f, %e, %hf, HF⟩, HW⟩ Hk
  sl_exec
  iapply Hk $$ [HF HF_src] [HF_dst] [HW]
  · isplitl [HF]
    · iexact HF
    iexists _; iexact HF_src
  · iexists f; isplitr
    · ipureintro; exact hf
    iexact HF_dst
  · iexists _; iexact HW

set_option maxHeartbeats 1000000 in
/-- A copy started: from a free slot whose contents are `T u` to a block not yet written. -/
theorem wp_start (T : Fin 32 → Vec F S16x1000x128 .f32) (g : Fin 3) (u : Fin 32) (e : Cont (F := F) c (tile g)) (he : ∀ y, (tile g).view.read (Elt F) e y = T u y)
    {o1 : Fin 1 → Nat} (h1 : o1 = ![g.val]) (i1) {o4 : Fin 4 → Nat} (h4 : o4 = ![g.val, 0, 0, 0]) (i4) {o3 : Fin 3 → Nat} (h3 : o3 = ![16 * u.val, 0, 0]) (i3) (hw hw' hw'')
    (k : PUnit → Prog (TpuEff nD τ sig (Elt F) Λ₀ .tc) PUnit) (W : Waits sig Unit) (Q : PUnit → sProp 𝕄) :
    iprop(cellP (F := F) c g ∗ tileP c g e ∗ ahead (F := F) c u)
      ⊢ iprop((infl (F := F) c T g u -∗ wp frame (wpE (defs₀ (F := F)) Variants.none c none) Set.univ (k ⟨⟩) Q)
        -∗ wp frame (wpE (defs₀ (F := F)) Variants.none c none) Set.univ
          (Prog.lift (.enqueueDma ((scr.slice (Rect.unit (s := S3x16x1000x128) o4 S1x16x1000x128.size i4) (fun _ => rfl)).squeeze S16x1000x128 squeezes_S1x16x1000x128_S16x1000x128)
            (.here (out.slice (Rect.unit (s := S512x1000x128) o3 S16x1000x128.size i3) (fun _ => rfl)))
            (.dma ((cc0_scratch1.slice (Rect.unit (s := S3) o1 S1.size i1)).squeeze S_ squeezes_S1_S_).sem) hw hw' hw'') >>= k) Q) := by
  subst h1 h4 h3
  change _ ⊢ iprop(_ -∗ wp frame (wpE (defs₀ (F := F)) Variants.none c none) Set.univ (.op (.enqueueDma (tile g) (.here (piece u)) (.dma (cell g).sem) hw hw' hw'') k) Q)
  iintro ⟨Hc, Ht, ⟨%f, Hp⟩⟩ Hk
  sl_exec
  iapply Hk
  iexists _, _; isplitr; swap
  · iexact Hc
  ipureintro
  intro y
  refine Eq.trans ?_ (he y)
  have hy : (Rect.whole S16x1000x128).emb y = y := funext fun a => Fin.ext (by show 0 + 1 * (y a).val = (y a).val; omega)
  exact (congrArg _ hy.symm).trans (View.read_slice_write_emb (v := (piece u).view) (Rect.whole S16x1000x128) f ((tile g).view.read (Elt F) e) (Finset.mem_univ y))

set_option maxHeartbeats 1000000 in
/-- The block stored. -/
theorem wp_storeBlock (arg4 : Memref sig .tc .vmem S16x128 .f32) (harg4 : arg4.IsWhole) (p : FVec F S16x128 .f32)
    (k : PUnit → Prog (TpuEff nD τ sig (Elt F) Λ₀ .tc) PUnit) (Q : PUnit → sProp 𝕄) :
    iprop(∃ d, owns (c : Thread nD τ) arg4 fullShare d)
      ⊢ iprop((owns (c : Thread nD τ) arg4 fullShare p -∗ wp frame (wpE (defs₀ (F := F)) Variants.none c none) Set.univ (k ⟨⟩) Q)
        -∗ wp frame (wpE (defs₀ (F := F)) Variants.none c none) Set.univ (storeBlock arg4 p >>= k) Q) := by
  unfold owns storeBlock
  iintro ⟨%d, %f, -, H⟩ Hk
  sl_exec
  iapply Hk
  iexists _
  isplitr; swap
  · iexact H
  ipureintro
  funext y
  have hy : (Rect.unit (s := S16x128) ![0, 0] S16x128.size inb_S16x128_S16x128_0_0).emb y = y := funext fun a => Fin.ext (by
    match a with
    | 0 => show 0 + 1 * (y 0).val = (y 0).val; omega
    | 1 => show 0 + 1 * (y 1).val = (y 1).val; omega)
  exact (congrArg _ hy.symm).trans (View.read_slice_write_emb (v := arg4.view) (Rect.unit (s := S16x128) ![0, 0] S16x128.size inb_S16x128_S16x128_0_0) f p (Finset.mem_univ y))

/-- The sixteen rows of point `t`. -/
def rows (t : Fin 32) (x : Vec F S512x1000 .f32) : Vec F S16x1000 .f32 := fun y => x (ix2 ⟨16 * t.val + (y 0).val, by have : (y 0).val < 16 := (y 0).isLt; omega⟩ (y 1))

set_option maxHeartbeats 1000000 in
/-- The three loads: the table and the row of ones whole, the sixteen rows of the point. -/
theorem wp_loads (i : grid0.Coords) (t : Fin 32) (hi : k0_off1 i = ![16 * t.val, 0]) (arg1 : Memref sig .tc .vmem S512x1000 .f32) (harg1 : arg1.IsWhole) (arg2 : Memref sig .tc .vmem S1x128 .bf16) (harg2 : arg2.IsWhole) (arg3 : Memref sig .tc .vmem S1000x128 .f32) (harg3 : arg3.IsWhole)
    (x0 : Vec F S512x1000 .f32) (x1 : Vec F S1x128 .bf16) (x2 : Vec F S1000x128 .f32)
    (k : Vec F S1000x128 .f32 → Vec F S1x128 .bf16 → Vec F S16x1000 .f32 → Prog (TpuEff nD τ sig (Elt F) Λ₀ .tc) PUnit) (Q : PUnit → sProp 𝕄) :
    iprop(owns (c : Thread nD τ) arg1 fullShare x0 ∗ owns (c : Thread nD τ) arg2 fullShare x1 ∗ owns (c : Thread nD τ) arg3 fullShare x2)
      ⊢ iprop((owns (c : Thread nD τ) arg1 fullShare x0 -∗ owns (c : Thread nD τ) arg2 fullShare x1 -∗ owns (c : Thread nD τ) arg3 fullShare x2
            -∗ wp frame (wpE (defs₀ (F := F)) Variants.none c none) Set.univ (k x2 x1 (rows t x0)) Q)
        -∗ wp frame (wpE (defs₀ (F := F)) Variants.none c none) Set.univ (loads i arg1 arg2 arg3 k) Q) := by
  unfold owns loads
  iintro ⟨⟨%f0, %hf0, H0⟩, ⟨%f1, %hf1, H1⟩, ⟨%f2, %hf2, H2⟩⟩ Hk
  sl_exec
  have e2 : View.readAt (Elt F) arg3.view (Rect.unit (s := S1000x128) ![0, 0] S1000x128.size inb_S1000x128_S1000x128_0_0).toLoadRect f2 = x2 := by
    funext y
    rw [View.readAt_apply, hf2]
    refine congrArg x2 (funext fun a => Fin.ext ?_)
    match a with
    | 0 => show 0 + 1 * (y 0).val = (y 0).val; omega
    | 1 => show 0 + 1 * (y 1).val = (y 1).val; omega
  have e1 : View.readAt (Elt F) arg2.view (Rect.unit (s := S1x128) ![0, 0] S1x128.size inb_S1x128_S1x128_0_0).toLoadRect f1 = x1 := by
    funext y
    rw [View.readAt_apply, hf1]
    refine congrArg x1 (funext fun a => Fin.ext ?_)
    match a with
    | 0 => show 0 + 1 * (y 0).val = (y 0).val; omega
    | 1 => show 0 + 1 * (y 1).val = (y 1).val; omega
  have e0 : View.readAt (Elt F) arg1.view (Rect.unit (s := S512x1000) (k0_off1 i) S16x1000.size (k0_off1_inb i)).toLoadRect f0 = rows t x0 := by
    funext y
    rw [View.readAt_apply, hf0]
    refine congrArg x0 (funext fun a => Fin.ext ?_)
    match a with
    | 0 => have h : k0_off1 i 0 = 16 * t.val := congrFun hi 0
           show k0_off1 i 0 + 1 * (y 0).val = 16 * t.val + (y 0).val; omega
    | 1 => have h : k0_off1 i 1 = 0 := congrFun hi 1
           show k0_off1 i 1 + 1 * (y 1).val = (y 1).val; omega
  rw [e0, e1, e2]
  iapply Hk $$ [H0] [H1] [H2]
  · iexists f0; isplitr
    · ipureintro; exact hf0
    iexact H0
  · iexists f1; isplitr
    · ipureintro; exact hf1
    iexact H1
  · iexists f2; isplitr
    · ipureintro; exact hf2
    iexact H2

end Flights
end Cert.KernelIdeal.Prod

end
-- ==== Proof.KernelIdeal.Slots.lean ====
/-
  The three slots and the thirty-two blocks before each point: which slots are free and which are on their way to which block,
  which blocks are written and which are not. Before point `k` the copies of the (up to) three points before it are on their way.
-/
module

public import proofs.«01_k».proof.Proof.KernelIdeal.Copies

@[expose] public section

set_option synthInstance.maxSize 4096
set_option maxRecDepth 16384

noncomputable section

namespace Cert.KernelIdeal.Prod

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Ring
variable (c : Dev nD) (T : Fin 32 → Vec F S16x1000x128 .f32)

/-- Slot `g` before point `k`: on its way to the block of the last point before `k` that used it, or free when none has. -/
def slotAt (k : ℕ) (g : Fin 3) : sProp 𝕄 := if g.val < k then infl c T g (Ring.bk 32 (k - 1 - (k - 1 - g.val) % 3)) else free (F := F) c g
/-- Block `u` before point `k`: not yet written, or written, or on its way (then it is held with its slot). -/
def blockAt (k : ℕ) (u : Fin 32) : sProp 𝕄 := if k ≤ u.val then ahead (F := F) c u else if u.val + 3 < k then behind c T u else iprop(emp)

/-- The slots and blocks before point `k`. -/
def ringAt (k : ℕ) : sProp 𝕄 := iprop(bigSep Finset.univ (blockAt c T k) ∗ bigSep Finset.univ (slotAt c T k))
/-- After the last point every block is written and every slot is free. -/
def ringEnd : sProp 𝕄 := iprop(bigSep Finset.univ (behind c T) ∗ bigSep Finset.univ (free (F := F) c))
/-- What is left of the ring at point `k` while the point's slot and block are in the body's hands. -/
def ringRest (k : ℕ) : sProp 𝕄 := iprop(bigSep Finset.univ (blockAt c T (k + 1)) ∗ bigSep (Finset.univ.erase (Ring.sl 3 k)) (slotAt c T (k + 1)))

omit [FloatOps F] in
theorem sl3_val (k : ℕ) : (Ring.sl 3 k).val = k % 3 := by simp [Ring.sl, Fin.ofNat]

/-- Before the first point all slots are free and no block is written. -/
theorem ringAt_zero : ringAt c T 0 = iprop(bigSep Finset.univ (ahead (F := F) c) ∗ bigSep Finset.univ (free (F := F) c)) := by
  unfold ringAt
  rw [BI.bigSep_congr (fun u _ => show blockAt c T 0 u = ahead c u from if_pos (Nat.zero_le _)),
    BI.bigSep_congr (fun g _ => show slotAt c T 0 g = free c g from if_neg (Nat.not_lt_zero _))]

/-- The other slots are before the next point as before this one. -/
theorem slotAt_other (k : ℕ) (g : Fin 3) (h : g ≠ Ring.sl 3 k) : slotAt c T k g = slotAt c T (k + 1) g := by
  have hne : g.val ≠ k % 3 := fun e => h (Fin.ext (e.trans (sl3_val k).symm))
  have hg := g.isLt
  unfold slotAt
  by_cases hk : g.val < k
  · rw [if_pos hk, if_pos (by omega), show k - 1 - (k - 1 - g.val) % 3 = k + 1 - 1 - (k + 1 - 1 - g.val) % 3 by omega]
  · rw [if_neg hk, if_neg (by omega)]

/-- The point's slot is on its way to the point's block before the next point. -/
theorem slotAt_next (k : ℕ) : slotAt c T (k + 1) (Ring.sl 3 k) = infl c T (Ring.sl 3 k) (Ring.bk 32 k) := by
  have h := sl3_val k
  unfold slotAt
  rw [if_pos (by omega), show k + 1 - 1 - (k + 1 - 1 - (Ring.sl 3 k).val) % 3 = k by omega]

/-- The first three points find their slots free, the others find them on their way to the block of three points before. -/
theorem slotAt_first (k : ℕ) (h : k < 3) : slotAt c T k (Ring.sl 3 k) = free (F := F) c (Ring.sl 3 k) := by
  have h' := sl3_val k
  unfold slotAt; rw [if_neg (by omega)]
@[inherit_doc slotAt_first] theorem slotAt_later (k : ℕ) (h : 3 ≤ k) : slotAt c T k (Ring.sl 3 k) = infl c T (Ring.sl 3 k) (Ring.bk 32 (k - 3)) := by
  have h' := sl3_val k
  unfold slotAt; rw [if_pos (by omega), show k - 1 - (k - 1 - (Ring.sl 3 k).val) % 3 = k - 3 by omega]

/-- The slots: the point's own, and the others as the next point finds them. -/
theorem slots_take (k : ℕ) : bigSep Finset.univ (slotAt c T k) = iprop(slotAt c T k (Ring.sl 3 k) ∗ bigSep (Finset.univ.erase (Ring.sl 3 k)) (slotAt c T (k + 1))) := by
  rw [Ring.bigSep_take (Finset.mem_univ (Ring.sl 3 k)) (slotAt c T k),
    BI.bigSep_congr (s := Finset.univ.erase (Ring.sl 3 k)) (fun g hg => slotAt_other c T k g (Finset.ne_of_mem_erase hg))]

/-- The next point's slots are the point's, on its way to its block, and the others. -/
theorem slots_put (k : ℕ) : bigSep Finset.univ (slotAt c T (k + 1)) = iprop(infl c T (Ring.sl 3 k) (Ring.bk 32 k) ∗ bigSep (Finset.univ.erase (Ring.sl 3 k)) (slotAt c T (k + 1))) := by
  rw [Ring.bigSep_take (Finset.mem_univ (Ring.sl 3 k)) (slotAt c T (k + 1)), slotAt_next]

/-- The block leaving: taken out of those not yet written. -/
theorem blockAt_other (k : ℕ) (u : Fin 32) (h : u.val ≠ k) (h' : u.val + 3 ≠ k) : blockAt c T k u = blockAt c T (k + 1) u := by
  unfold blockAt
  by_cases h1 : k ≤ u.val
  · rw [if_pos h1, if_pos (by omega)]
  · rw [if_neg h1, if_neg (by omega : ¬ k + 1 ≤ u.val)]
    by_cases h2 : u.val + 3 < k
    · rw [if_pos h2, if_pos (by omega)]
    · rw [if_neg h2, if_neg (by omega)]

/-- The blocks before one of the first three points: the point's own, and the next point's. -/
theorem blocks_first (k : ℕ) (h : k < 3) : bigSep Finset.univ (blockAt c T k) ⊢ iprop(ahead (F := F) c (Ring.bk 32 k) ∗ bigSep Finset.univ (blockAt c T (k + 1))) := by
  have hv : (Ring.bk 32 k).val = k := Ring.bk_val (by omega)
  rw [Ring.bigSep_take (Finset.mem_univ (Ring.bk 32 k)) (blockAt c T k), Ring.bigSep_take (Finset.mem_univ (Ring.bk 32 k)) (blockAt c T (k + 1)),
    BI.bigSep_congr (s := Finset.univ.erase (Ring.bk 32 k)) (fun u hu => blockAt_other c T k u (fun e => Finset.ne_of_mem_erase hu (Fin.ext (e.trans hv.symm))) (by omega)),
    show blockAt c T k (Ring.bk 32 k) = ahead c (Ring.bk 32 k) from if_pos (by omega),
    show blockAt c T (k + 1) (Ring.bk 32 k) = iprop(emp) by unfold blockAt; rw [if_neg (by omega), if_neg (by omega)]]
  iintro ⟨H, HR⟩
  isplitl [H]
  · iexact H
  isplitr
  · iempintro
  iexact HR

/-- The blocks before a later point with the block just waited for: the point's own, and the next point's. -/
theorem blocks_later (k : ℕ) (h : 3 ≤ k) (hk : k < 32) :
    iprop(bigSep Finset.univ (blockAt c T k) ∗ behind c T (Ring.bk 32 (k - 3))) ⊢ iprop(ahead (F := F) c (Ring.bk 32 k) ∗ bigSep Finset.univ (blockAt c T (k + 1))) := by
  have hv : (Ring.bk 32 k).val = k := Ring.bk_val hk
  have hv' : (Ring.bk 32 (k - 3)).val = k - 3 := Ring.bk_val (by omega)
  have hm : Ring.bk 32 (k - 3) ∈ Finset.univ.erase (Ring.bk 32 k) := Finset.mem_erase.mpr ⟨fun e => by have := congrArg Fin.val e; omega, Finset.mem_univ _⟩
  rw [Ring.bigSep_take (Finset.mem_univ (Ring.bk 32 k)) (blockAt c T k), Ring.bigSep_take (Finset.mem_univ (Ring.bk 32 k)) (blockAt c T (k + 1)),
    Ring.bigSep_take hm (blockAt c T k), Ring.bigSep_take hm (blockAt c T (k + 1)),
    BI.bigSep_congr (s := (Finset.univ.erase (Ring.bk 32 k)).erase (Ring.bk 32 (k - 3))) (fun u hu => blockAt_other c T k u
      (fun e => Finset.ne_of_mem_erase (Finset.mem_of_mem_erase hu) (Fin.ext (e.trans hv.symm)))
      (fun e => Finset.ne_of_mem_erase hu (Fin.ext (by omega)))),
    show blockAt c T k (Ring.bk 32 k) = ahead c (Ring.bk 32 k) from if_pos (by omega),
    show blockAt c T (k + 1) (Ring.bk 32 k) = iprop(emp) by unfold blockAt; rw [if_neg (by omega), if_neg (by omega)],
    show blockAt c T k (Ring.bk 32 (k - 3)) = iprop(emp) by unfold blockAt; rw [if_neg (by omega), if_neg (by omega)],
    show blockAt c T (k + 1) (Ring.bk 32 (k - 3)) = behind c T (Ring.bk 32 (k - 3)) by unfold blockAt; rw [if_neg (by omega), if_pos (by omega)]]
  iintro ⟨⟨H, -, HR⟩, HB⟩
  isplitl [H]
  · iexact H
  isplitr
  · iempintro
  isplitl [HB]
  · iexact HB
  iexact HR

/-- At the end, the three copies still on their way. -/
theorem slots_last : bigSep Finset.univ (slotAt c T 32) = iprop(infl c T 0 (30 : Fin 32) ∗ infl c T 1 (31 : Fin 32) ∗ infl c T 2 (29 : Fin 32)) := by
  rw [BI.bigSep_eq_bigSepL_of_eq [0, 1, 2] (by decide) (by decide)]
  rfl

/-- The three slots free. -/
theorem frees_list : (bigSep Finset.univ (free (F := F) c) : sProp 𝕄) = iprop(free (F := F) c 0 ∗ free (F := F) c 1 ∗ free (F := F) c 2) := by
  rw [BI.bigSep_eq_bigSepL_of_eq [0, 1, 2] (by decide) (by decide)]
  rfl

/-- With the last three blocks written all are. -/
theorem blocks_last : iprop(bigSep Finset.univ (blockAt c T 32) ∗ behind c T (30 : Fin 32) ∗ behind c T (31 : Fin 32) ∗ behind c T (29 : Fin 32)) ⊢ bigSep Finset.univ (behind c T) := by
  have h1 : (30 : Fin 32) ∈ (Finset.univ.erase (29 : Fin 32)) := by decide
  have h2 : (31 : Fin 32) ∈ ((Finset.univ.erase (29 : Fin 32)).erase 30) := by decide
  rw [Ring.bigSep_take (Finset.mem_univ (29 : Fin 32)) (blockAt c T 32), Ring.bigSep_take (Finset.mem_univ (29 : Fin 32)) (behind c T),
    Ring.bigSep_take h1 (blockAt c T 32), Ring.bigSep_take h1 (behind c T), Ring.bigSep_take h2 (blockAt c T 32), Ring.bigSep_take h2 (behind c T),
    BI.bigSep_congr (s := ((Finset.univ.erase (29 : Fin 32)).erase 30).erase 31) (fun u hu => show blockAt c T 32 u = behind c T u by
      have hu1 : u ≠ 31 := Finset.ne_of_mem_erase hu
      have hu2 : u ≠ 30 := Finset.ne_of_mem_erase (Finset.mem_of_mem_erase hu)
      have hu3 : u ≠ 29 := Finset.ne_of_mem_erase (Finset.mem_of_mem_erase (Finset.mem_of_mem_erase hu))
      have hlt := u.isLt
      have e1 : u.val ≠ 31 := fun e => hu1 (Fin.ext e)
      have e2 : u.val ≠ 30 := fun e => hu2 (Fin.ext e)
      have e3 : u.val ≠ 29 := fun e => hu3 (Fin.ext e)
      unfold blockAt; rw [if_neg (by omega), if_pos (by omega)])]
  iintro ⟨⟨-, -, -, HR⟩, H0, H1, H2⟩
  isplitl [H2]
  · iexact H2
  isplitl [H0]
  · iexact H0
  isplitl [H1]
  · iexact H1
  iexact HR
end Ring

end Cert.KernelIdeal.Prod

end
-- ==== Proof.KernelIdeal.Triple.lean ====
/-
  The body at a point: from the slots and blocks before the point to those before the next one.
-/
module

public import proofs.«01_k».proof.Proof.KernelIdeal.Slots
public import Idealize.ShloMosaic.Lib.ValueLayout

@[expose] public section

set_option synthInstance.maxSize 4096
set_option maxRecDepth 16384

noncomputable section

namespace Cert.KernelIdeal.Prod

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Triple
variable (c : Dev nD) (T : Fin 32 → Vec F S16x1000x128 .f32)

/-! ## The point's slot, as the stores and as the copy name it -/

/-- The elements the stores are held over are the slot's. -/
theorem slotSet_eq (t : Fin cfg0.N) : slotSet c (grid0.coords t) = tileSet (Ring.sl 3 t.val) := by
  refine (View.set_slice_whole _ _).trans (Finset.ext fun z => ?_)
  rw [mem_tileSet, ← slot_coords t]
  exact ⟨fun h => by
    have h0 : slot (grid0.coords t) ≤ (z 0).val ∧ (z 0).val < slot (grid0.coords t) + 1 := Rect.mem_set_unit.mp h 0
    omega, fun h => mem_slotBox _ h⟩

/-- Held as the copy's source or as the stores' target, it is the same. -/
theorem tileP_slot (t : Fin cfg0.N) (e : Buf (Elt F) (scr.view.loc (c : Thread nD τ))) :
    tileP (F := F) c (Ring.sl 3 t.val) e = (scr.view.loc (c : Thread nD τ) ↦[slotSet c (grid0.coords t)]{fullShare} e : sProp 𝕄) :=
  (tileP_eq (F := F) c (Ring.sl 3 t.val) e).trans (congrArg (fun S : Finset S3x16x1000x128.Idx => (((c : Thread nD τ).loc cc0_scratch0) ↦[S]{fullShare} e : sProp 𝕄)) (slotSet_eq c t).symm)

/-- A slot filled with `V` reads `V` as a tile. -/
theorem tile_read (t : Fin cfg0.N) (V : Vec F S16x1000x128 .f32) (e : Buf (Elt F) (scr.view.loc (c : Thread nD τ)))
    (h : Agrees V (slot (grid0.coords t)) (slot_lt _) (fun _ => True) e) (y : S16x1000x128.Idx) : (tile (Ring.sl 3 t.val)).view.read (Elt F) e y = V y := by
  rw [← h y trivial]
  idx_vars y
  have hr : Shape.reshapeEquiv (squeezes_S1x16x1000x128_S16x1000x128.numel_eq) (ix3 y0 y1 y2) = ix4 (0 : Fin 1) y0 y1 y2 := ValueIdx.reshapeEquiv_ix3_1abc _ _ _ _
  have hi : (Rect.unit (s := S3x16x1000x128) ![(Ring.sl 3 t.val).val, 0, 0, 0] S1x16x1000x128.size (tile_inb _)).emb (ix4 (0 : Fin 1) y0 y1 y2) = atSlot (slot (grid0.coords t)) (slot_lt _) (ix3 y0 y1 y2) := by
    funext a
    refine Fin.ext ?_
    match a with
    | 0 => have h := slot_coords t; show (Ring.sl 3 t.val).val + 1 * 0 = slot (grid0.coords t); omega
    | 1 => show 0 + 1 * y0.val = y0.val; omega
    | 2 => show 0 + 1 * y1.val = y1.val; omega
    | 3 => show 0 + 1 * y2.val = y2.val; omega
  refine Eq.trans ?_ (congrArg (scr.view.read (Elt F) e) hi)
  exact congrArg (fun z => scr.view.read (Elt F) e ((Rect.unit (s := S3x16x1000x128) ![(Ring.sl 3 t.val).val, 0, 0, 0] S1x16x1000x128.size (tile_inb _)).emb z)) hr

/-! ## The wait at the head -/

/-- The wait at the head, where there is one, hands the body its slot free and its block not yet written. -/
theorem wp_waitSlot (t : Fin cfg0.N) (k : PUnit → Prog (TpuEff nD τ sig (Elt F) Λ₀ .tc) PUnit) (W : Waits sig Unit) (Q : PUnit → sProp 𝕄) :
    iprop(ringAt c T t.val ∗ owes (c : Thread nD τ) 0 W)
      ⊢ iprop((free (F := F) c (Ring.sl 3 t.val) -∗ ahead (F := F) c (Ring.bk 32 t.val) -∗ ringRest c T t.val -∗ (∃ W', owes (c : Thread nD τ) 0 W')
            -∗ wp frame (wpE (defs₀ (F := F)) Variants.none c none) Set.univ (k ⟨⟩) Q)
        -∗ wp frame (wpE (defs₀ (F := F)) Variants.none c none) Set.univ (waitSlot (grid0.coords t) out scr cc0_scratch1 >>= k) Q) := by
  have ht : t.val < 32 := lt_of_lt_of_eq t.isLt N_0
  unfold ringAt ringRest
  rw [slots_take c T t.val]
  by_cases h : 3 ≤ t.val
  · rw [slotAt_later c T t.val h]
    unfold waitSlot
    rw [dif_pos ((condWait_iff t).mpr h)]
    iintro ⟨⟨HB, HF, HS⟩, HW⟩ Hk
    iapply (wp_wait c T (Ring.sl 3 t.val) (Ring.bk 32 (t.val - 3)) (off2_coords t) _ (off3_coords t) _ _ _ k W Q) $$ [HF HW]
    · isplitl [HF]
      · iexact HF
      iexact HW
    iintro Hf Hb HW
    ihave HB' := (blocks_later c T t.val h ht) $$ [HB Hb]
    · isplitl [HB]
      · iexact HB
      iexact Hb
    icases HB' with ⟨Ha, HB⟩
    iapply Hk $$ Hf Ha [HB HS] HW
    isplitl [HB]
    · iexact HB
    iexact HS
  · rw [slotAt_first c T t.val (by omega)]
    unfold waitSlot
    rw [dif_neg (fun hc => h ((condWait_iff t).mp hc))]
    change _ ⊢ iprop(_ -∗ wp frame (wpE (defs₀ (F := F)) Variants.none c none) Set.univ (k ⟨⟩) Q)
    iintro ⟨⟨HB, Hf, HS⟩, HW⟩ Hk
    ihave HB' := (blocks_first c T t.val (by omega)) $$ HB
    icases HB' with ⟨Ha, HB⟩
    iapply Hk $$ Hf Ha [HB HS] [HW]
    · isplitl [HB]
      · iexact HB
      iexact HS
    iexists W; iexact HW

/-! ## The waits at the end -/

/-- The slots and blocks after point `k - 1`: before point `k`, or at the end. -/
def ringNext (k : ℕ) : sProp 𝕄 := if k < 32 then ringAt c T k else ringEnd c T

/-- The waits at the end, where there are any, leave the slots and blocks as after the point. -/
theorem wp_drain (t : Fin cfg0.N) (W : Waits sig Unit) (Q : PUnit → sProp 𝕄) :
    iprop(infl c T (Ring.sl 3 t.val) (Ring.bk 32 t.val) ∗ ringRest c T t.val ∗ owes (c : Thread nD τ) 0 W)
      ⊢ iprop((ringNext c T (t.val + 1) -∗ (∃ W', owes (c : Thread nD τ) 0 W') -∗ Q ⟨⟩)
        -∗ wp frame (wpE (defs₀ (F := F)) Variants.none c none) Set.univ (drain (grid0.coords t) out scr cc0_scratch1) Q) := by
  have ht : t.val < 32 := lt_of_lt_of_eq t.isLt N_0
  have hR : iprop(infl c T (Ring.sl 3 t.val) (Ring.bk 32 t.val) ∗ ringRest c T t.val) ⊢ ringAt c T (t.val + 1) := by
    unfold ringAt ringRest
    rw [slots_put c T t.val]
    iintro ⟨HF, HB, HS⟩
    isplitl [HB]
    · iexact HB
    isplitl [HF]
    · iexact HF
    iexact HS
  unfold ringNext drain
  by_cases h : t.val = 31
  · rw [if_neg (by omega), dif_pos ((condEnd_iff t).mpr h)]
    have h32 : t.val + 1 = 32 := by omega
    rw [h32] at hR
    unfold ringAt at hR
    unfold ringEnd
    rw [slots_last] at hR
    rw [frees_list]
    iintro ⟨HF, HR, HW⟩ Hk
    ihave HR' := hR $$ [HF HR]
    · isplitl [HF]
      · iexact HF
      iexact HR
    icases HR' with ⟨HB, H0, H1, H2⟩
    iapply (wp_wait c T 0 (30 : Fin 32) rfl _ rfl _ _ _ _ W Q) $$ [H0 HW]
    · isplitl [H0]
      · iexact H0
      iexact HW
    iintro Hf0 Hb0 ⟨%W1, HW⟩
    iapply (wp_wait c T 1 (31 : Fin 32) rfl _ rfl _ _ _ _ W1 Q) $$ [H1 HW]
    · isplitl [H1]
      · iexact H1
      iexact HW
    iintro Hf1 Hb1 ⟨%W2, HW⟩
    iapply (wp_wait c T 2 (29 : Fin 32) rfl _ rfl _ _ _ pure W2 Q) $$ [H2 HW]
    · isplitl [H2]
      · iexact H2
      iexact HW
    iintro Hf2 Hb2 HW
    sl_step
    iapply Hk $$ [HB Hf0 Hf1 Hf2 Hb0 Hb1 Hb2] HW
    isplitl [HB Hb0 Hb1 Hb2]
    · iapply (blocks_last c T)
      isplitl [HB]
      · iexact HB
      isplitl [Hb0]
      · iexact Hb0
      isplitl [Hb1]
      · iexact Hb1
      iexact Hb2
    isplitl [Hf0]
    · iexact Hf0
    isplitl [Hf1]
    · iexact Hf1
    iexact Hf2
  · rw [if_pos (by omega), dif_neg (fun hc => h ((condEnd_iff t).mp hc))]
    iintro ⟨HF, HR, HW⟩ Hk
    sl_step
    iapply Hk $$ [HF HR] [HW]
    · iapply hR
      isplitl [HF]
      · iexact HF
      iexact HR
    iexists W; iexact HW

/-! ## The body -/

/-- The point's tile of the second result, and its block of the first. -/
abbrev tileOf (x0 : Vec F S512x1000 .f32) (x1 : Vec F S1x128 .bf16) (x2 : Vec F S1000x128 .f32) (u : Fin 32) : Vec F S16x1000x128 .f32 := tileVal x2 x1 (rows u x0)
@[inherit_doc tileOf] abbrev blockOf (x0 : Vec F S512x1000 .f32) (x2 : Vec F S1000x128 .f32) (u : Fin 32) : FVec F S16x128 .f32 := k0_pay1 x2 (rows u x0)

/-- The body at point `t`. -/
theorem wp_body (t : Fin cfg0.N) (arg1 : Memref sig .tc .vmem S512x1000 .f32) (harg1 : arg1.IsWhole) (arg2 : Memref sig .tc .vmem S1x128 .bf16) (harg2 : arg2.IsWhole)
    (arg3 : Memref sig .tc .vmem S1000x128 .f32) (harg3 : arg3.IsWhole) (arg4 : Memref sig .tc .vmem S16x128 .f32) (harg4 : arg4.IsWhole)
    (x0 : Vec F S512x1000 .f32) (x1 : Vec F S1x128 .bf16) (x2 : Vec F S1000x128 .f32) (W : Waits sig Unit) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ ringAt c (tileOf x0 x1 x2) t.val ∗ owes (c : Thread nD τ) 0 W
        ∗ (iprop(owns (c : Thread nD τ) arg1 fullShare x0 ∗ owns (c : Thread nD τ) arg2 fullShare x1 ∗ owns (c : Thread nD τ) arg3 fullShare x2
              ∗ owns (c : Thread nD τ) arg4 fullShare (blockOf x0 x2 (Ring.bk 32 t.val)) ∗ ringNext c (tileOf x0 x1 x2) (t.val + 1) ∗ (∃ W', owes (c : Thread nD τ) 0 W')) -∗ K ⟨⟩))
      ⊢ wp frame (wpE (defs₀ (F := F)) Variants.none c none) Set.univ
          (cc0__fused_kernel (grid0.coords t) arg1 harg1 arg2 harg2 arg3 harg3 arg4 harg4 (Memref.whole main_v1_1) (Memref.isWhole_whole _) (Memref.whole cc0_scratch0) (Memref.isWhole_whole _) cc0_scratch1) K := by
  have ht : t.val < 32 := lt_of_lt_of_eq t.isLt N_0
  rw [body_eq]
  unfold body
  iintro ⟨H1, H2, H3, H4, HR, HW, Hk⟩
  iapply (wp_loads c (grid0.coords t) (Ring.bk 32 t.val) ((row_coords t).trans (by rw [Ring.bk_val ht])) arg1 harg1 arg2 harg2 arg3 harg3 x0 x1 x2 _ K) $$ [H1 H2 H3]
  · isplitl [H1]
    · iexact H1
    isplitl [H2]
    · iexact H2
    iexact H3
  iintro H1 H2 H3
  iapply (wp_waitSlot c (tileOf x0 x1 x2) t _ W K) $$ [HR HW]
  · isplitl [HR]
    · iexact HR
    iexact HW
  iintro ⟨Hc, ⟨%e, Ht⟩⟩ Ha HR ⟨%W', HW⟩
  ihave Ht' := (Entails.of_eq (tileP_slot c t e)) $$ Ht
  iapply (wp_colStores c (grid0.coords t) x2 (k0_pay3 (rows (Ring.bk 32 t.val) x0)) (tileOf x0 x1 x2 (Ring.bk 32 t.val)) (fun g hg j y => colPay_tileVal x2 x1 (rows (Ring.bk 32 t.val) x0) g hg j y) _ K 125 le_rfl e
    (fun y hy => absurd hy.2 (by omega))) $$ Ht'
  iintro %e1 %he1 Ht
  iapply (wp_rowStores c (grid0.coords t) x2 (k0_pay2 x1) (k0_pay160 (rows (Ring.bk 32 t.val) x0)) (tileOf x0 x1 x2 (Ring.bk 32 t.val)) (fun r hr j y => rowPay_tileVal x2 x1 (rows (Ring.bk 32 t.val) x0) r hr j y) _ K 8 le_rfl e1 he1) $$ Ht
  iintro %e2 %he2 Ht
  ihave Ht' := (Entails.of_eq (tileP_slot c t e2).symm) $$ Ht
  unfold afterStores startCopy
  iapply (wp_start c (tileOf x0 x1 x2) (Ring.sl 3 t.val) (Ring.bk 32 t.val) e2 (tile_read c t _ e2 he2) (off137_coords t) _ (off139_coords t) _ (off138_coords t) _ _ _ _ _ W' K) $$ [Hc Ht' Ha]
  · isplitl [Hc]
    · iexact Hc
    isplitl [Ht']
    · iexact Ht'
    iexact Ha
  iintro HF
  iapply (wp_storeBlock c arg4 harg4 _ _ K) $$ H4
  iintro H4
  iapply (wp_drain c (tileOf x0 x1 x2) t W' K) $$ [HF HR HW]
  · isplitl [HF]
    · iexact HF
    isplitl [HR]
    · iexact HR
    iexact HW
  iintro HR HW
  iapply Hk
  isplitl [H1]
  · iexact H1
  isplitl [H2]
  · iexact H2
  isplitl [H3]
  · iexact H3
  isplitl [H4]
  · iexact H4
  isplitl [HR]
  · iexact HR
  iexact HW
end Triple

end Cert.KernelIdeal.Prod

end
-- ==== Proof.KernelIdeal.Launch.lean ====
/-
  The launch: the invariant between points, the body's obligation at each, and the run. Every execution ends with the arguments
  as they were, the counters at zero, the first result as the blocks written back to it, and the second result as the points'
  tiles.
-/
module

public import proofs.«01_k».proof.Proof.KernelIdeal.Triple
public import proofs.«01_k».proof.Proof.Gen.KernelIdeal.Frame
public import Idealize.ShloMosaic.Lib.Claim

@[expose] public section

set_option synthInstance.maxSize 4096
set_option maxRecDepth 16384

noncomputable section

namespace Cert.KernelIdeal.Prod

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch's data -/

set_option maxHeartbeats 800000 in
/-- The host operations run up to the launch. -/
theorem main_to_launch (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The second result is what the body's own copies write; nothing else outside the windows is read. -/
def written : Finset (Ref sig .tc) := {main_v1_1}
@[inherit_doc written] def readOnly : Finset (Ref sig .tc) := {}
/-- Both are buffers outside the windows. -/
theorem readOnly_sub : readOnly ⊆ Pipeline.restRefs sig spec0 := by decide
/-- The second result is no window and is not among the buffers only read. -/
theorem written_sub : written ⊆ Pipeline.restRefs sig spec0 \ readOnly := by decide

/-- The copies' semaphores. -/
abbrev ownSem : Fin 3 → SemLoc sig := fun j => (![SemLoc.dma 5, SemLoc.dma 6, SemLoc.dma 7] : Fin 3 → SemLoc sig) j
/-- The three semaphores are distinct and none is a window's. -/
theorem ownSem_facts : Pipeline.OwnSemFacts spec0 ownSem := by decide

/-- What the launch finds in the three inputs. -/
abbrev in0 (c : Dev nD) (t : Fin cfg0.N) : Vec F S512x1000 .f32 := iblk m c 0 t
@[inherit_doc in0] abbrev in1 (c : Dev nD) (t : Fin cfg0.N) : Vec F S1x128 .bf16 := iblk m c 1 t
@[inherit_doc in0] abbrev in2 (c : Dev nD) (t : Fin cfg0.N) : Vec F S1000x128 .f32 := iblk m c 2 t

/-- The first point. -/
abbrev pt0 : Fin cfg0.N := ⟨0, by show 0 < grid0.N; rw [N_0]; decide⟩

/-- The tiles of a run on core `c`. -/
abbrev tiles (c : Dev nD) : Fin 32 → Vec F S16x1000x128 .f32 := tileOf (in0 m c pt0) (in1 m c pt0) (in2 m c pt0)
/-- The blocks of the first result. -/
abbrev blocks (c : Dev nD) : Fin 32 → Vec F S16x128 .f32 := blockOf (in0 m c pt0) (in2 m c pt0)

/-- The first input is the same at every point. -/
theorem in0_const (c : Dev nD) (t : Fin cfg0.N) : in0 m c t = in0 m c pt0 := rfl
/-- The row of ones is the same at every point. -/
theorem in1_const (c : Dev nD) (t : Fin cfg0.N) : in1 m c t = in1 m c pt0 := rfl
/-- The table is the same at every point. -/
theorem in2_const (c : Dev nD) (t : Fin cfg0.N) : in2 m c t = in2 m c pt0 := rfl

/-- The invariant before point `k`: the generator's register and the slots and blocks. -/
def inv (c : Dev nD) (k : ℕ) : sProp 𝕄 := iprop((∃ r, prngReg c r) ∗ ringNext c (tiles m c) k)

/-- The launch's data on core `c`: the arrays as found; each input in place after the body, the output at the point's block. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blocks m c (Ring.bk 32 t.val)
  Φ t := inv m c t.val
  q _ := fullShare
  owed _ := 0

/-- The arrays are as the launch finds them. -/
theorem A_eq (c : Dev nD) (w : Fin cfg0.W) : (dats m 0 c).A w = V m c (Pipeline.arrRef spec0 w) := by dsimp only [dats]
/-- The invariant before a point. -/
theorem inv_castSucc (c : Dev nD) (t : Fin cfg0.N) : (dats m 0 c).Φ t.castSucc = inv m c t.val := by dsimp only [dats]; simp only [Fin.coe_castSucc]
/-- The invariant after a point. -/
theorem inv_succ (c : Dev nD) (t : Fin cfg0.N) : (dats m 0 c).Φ t.succ = inv m c (t.val + 1) := by dsimp only [dats]; simp only [Fin.val_succ]
/-- The body leaves the first input in place. -/
theorem after_0 (c : Dev nD) (t : Fin cfg0.N) : (dats m 0 c).after 0 t = iblk m c 0 t := by dsimp only [dats]
/-- The body leaves the row of ones in place. -/
theorem after_1 (c : Dev nD) (t : Fin cfg0.N) : (dats m 0 c).after 1 t = iblk m c 1 t := by dsimp only [dats]
/-- The body leaves the table in place. -/
theorem after_2 (c : Dev nD) (t : Fin cfg0.N) : (dats m 0 c).after 2 t = iblk m c 2 t := by dsimp only [dats]
/-- The body leaves the point's block of the first result. -/
theorem after_3 (c : Dev nD) (t : Fin cfg0.N) : (dats m 0 c).after 3 t = blocks m c (Ring.bk 32 t.val) := by dsimp only [dats]

/-- An input is in its buffer at every point, whether or not the point fetched it. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
@[inherit_doc before_0] theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
@[inherit_doc before_0] theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]) t d).trans
    (by unfold Dat.fetched Dat.blockOf iblk; rw [A_eq]; rfl)

/-! ## The obligation -/

/-- The windows' buffers at a point. -/
abbrev buf0 (t : Fin cfg0.N) : Memref sig .tc .vmem S512x1000 .f32 := win0_0.stage (cfg0.slots t 0)
@[inherit_doc buf0] abbrev buf1 (t : Fin cfg0.N) : Memref sig .tc .vmem S1x128 .bf16 := win0_1.stage (cfg0.slots t 1)
@[inherit_doc buf0] abbrev buf2 (t : Fin cfg0.N) : Memref sig .tc .vmem S1000x128 .f32 := win0_2.stage (cfg0.slots t 2)
@[inherit_doc buf0] abbrev buf3 (t : Fin cfg0.N) : Memref sig .tc .vmem S16x128 .f32 := win0_3.stage (cfg0.slots t 3)

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d)))
@[inherit_doc bodyPre] def bodyPost (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t))

/-- The body at a point, between the two. -/
theorem body_sound (c : Dev nD) (t : Fin cfg0.N) :
    bodyPre m c t ⊢ wp frame (wpE (defs₀ (F := F)) Variants.none c none) Set.univ (bodyAt0 t) (fun _ => bodyPost m c t) := by
  have ht : t.val < 32 := lt_of_lt_of_eq t.isLt N_0
  unfold bodyPre bodyPost bodyAt0
  simp only [before_0, before_1, before_2]
  rw [after_0, after_1, after_2, after_3, inv_castSucc m c t, inv_succ m c t]
  unfold Dat.owesAt Pipeline.owesWithin
  rw [show (dats m 0 c).owed t.castSucc = 0 from rfl, show (dats m 0 c).owed t.succ = 0 from rfl]
  unfold inv
  rw [show ringNext c (tiles m c) t.val = ringAt c (tiles m c) t.val from if_pos ht]
  iintro ⟨⟨Hg, HR⟩, ⟨%W, -, HW⟩, ⟨%d0, H0⟩, ⟨%d1, H1⟩, ⟨%d2, H2⟩, ⟨%d3, H3⟩⟩
  iapply (wp_body c t _ _ _ _ _ _ _ _ (in0 m c pt0) (in1 m c pt0) (in2 m c pt0) W _)
  isplitl [H0]
  · iexact H0
  isplitl [H1]
  · iexact H1
  isplitl [H2]
  · iexact H2
  isplitl [H3]
  · iexists _; iexact H3
  isplitl [HR]
  · iexact HR
  isplitl [HW]
  · iexact HW
  iintro ⟨H0, H1, H2, H3, HR, ⟨%W', HW⟩⟩
  isplitl [Hg HR]
  · isplitl [Hg]
    · iexact Hg
    iexact HR
  isplitl [HW]
  · iexists W'; isplitr
    · ipureintro; exact fun _ _ => Or.inl trivial
    iexact HW
  isplitl [H0]
  · iexact H0
  isplitl [H1]
  · iexact H1
  isplitl [H2]
  · iexact H2
  iexact H3

/-- The body the launch runs at a point is the printed one on the point's buffers. -/
theorem body_row (t : Fin cfg0.N) : defs₀ (F := F) .tc cfg0.body (cfg0.bodyArgs t (cfg0.slots t)) = bodyAt0 t := by
  unfold defs₀; rw [Defs.onTc_tc]

/-- The obligation at every point. -/
theorem body_obligation (c : Dev nD) : BodyObligation (dats (F := F) m 0 c) (defs₀ (F := F)) Variants.none () Set.univ := fun t => by
  rw [bigSep_W0, bigSep_W0, body_row]
  exact triple_restated (body_sound m c t) rfl .rfl fun _ => .rfl

/-! ## Into the ring and out of it -/

/-- The second result with blocks `T`. -/
def assembled (T : Fin 32 → Vec F S16x1000x128 .f32) : S512x1000x128.Idx → F .f32 := fun z =>
  T ⟨(z 0).val / 16, by have : (z 0).val < 512 := (z 0).isLt; omega⟩ (ix3 ⟨(z 0).val % 16, Nat.mod_lt _ (by decide)⟩ (z 1) (z 2))

/-- A block written is its part of the result assembled. -/
theorem behind_block (c : Dev nD) (T : Fin 32 → Vec F S16x1000x128 .f32) (u : Fin 32) :
    behind c T u ⊢ (((c : Thread nD τ).loc main_v1_1) ↦[pieceSet u]{fullShare} (assembled T) : sProp 𝕄) := by
  iintro ⟨%f, %hf, H⟩
  have he : pieceP (F := F) c u f = (((c : Thread nD τ).loc main_v1_1) ↦[pieceSet u]{fullShare} (assembled T) : sProp 𝕄) :=
    (pieceP_eq c u f).trans (pointsTo_congr fun z hz => by
      have hz' := (mem_pieceSet u z).mp hz
      have h := hf (ix3 ⟨(z 0).val % 16, Nat.mod_lt _ (by decide)⟩ (z 1) (z 2))
      have hu : (⟨(z 0).val / 16, by have : (z 0).val < 512 := (z 0).isLt; omega⟩ : Fin 32) = u := Fin.ext hz'
      refine Eq.trans ?_ (h.trans ?_)
      · refine congrArg f (funext fun a => Fin.ext ?_)
        match a with
        | 0 => show (z 0).val = 16 * u.val + 1 * ((z 0).val % 16); omega
        | 1 => show (z 1).val = 0 + 1 * (z 1).val; omega
        | 2 => show (z 2).val = 0 + 1 * (z 2).val; omega
      · unfold assembled; rw [hu])
  iapply (Entails.of_eq he)
  iexact H

/-- The second result held whole is held block by block. -/
theorem blocks_eq (c : Dev nD) (f : Buf (Elt F) ((c : Thread nD τ).loc main_v1_1)) :
    (((c : Thread nD τ).loc main_v1_1) ↦{fullShare} f : sProp 𝕄) = bigSep Finset.univ fun u => (((c : Thread nD τ).loc main_v1_1) ↦[pieceSet u]{fullShare} f : sProp 𝕄) :=
  Ring.pointsTo_blocks (U := Pipeline.UD sig nD τ) (ℓ := (c : Thread nD τ).loc main_v1_1) pieceSet pieceSet_disjoint pieceSet_cover f

/-- The blocks written are the result assembled. -/
theorem behind_join (c : Dev nD) (T : Fin 32 → Vec F S16x1000x128 .f32) :
    bigSep Finset.univ (behind c T) ⊢ (((c : Thread nD τ).loc main_v1_1) ↦{fullShare} (assembled T) : sProp 𝕄) :=
  (Idealize.SL.BI.bigSep_mono (Ψ := fun u => (((c : Thread nD τ).loc main_v1_1) ↦[pieceSet u]{fullShare} (assembled T) : sProp 𝕄)) fun u _ => behind_block c T u).trans
    (Entails.of_eq (blocks_eq c (assembled T)).symm)

/-- The second result at its end, the other buffers as found. -/
def final (c : Dev nD) (b : Ref sig .tc) : Buf (Elt F) ((c : Thread nD τ).loc b) := Function.update (V m c) main_v1_1 (assembled (tiles m c)) b
/-- The second result ends assembled. -/
theorem final_written (c : Dev nD) : final m c main_v1_1 = assembled (tiles m c) := Function.update_self _ _ _

/-- The semaphores at zero, listed. -/
theorem ownSems_eq (c : Dev nD) :
    (Pipeline.ownSems0 (Ix := Unit) (Name := ℕ) (U := Pipeline.UD sig nD τ) (Lvl := ℕ) (Val := Elt F) (τ := τ) ownSem c : sProp 𝕄) = iprop(cellP (F := F) c 0 ∗ cellP (F := F) c 1 ∗ cellP (F := F) c 2) := by
  rw [Pipeline.ownSems0_eq_of_list c ownSem [0, 1, 2] (by decide) (by decide), cellP_0, cellP_1, cellP_2]; rfl

/-- The three slots, listed. -/
theorem slots_list (c : Dev nD) : bigSep Finset.univ (fun g => iprop(∃ e, tileP (F := F) c g e)) = (iprop((∃ e, tileP (F := F) c 0 e) ∗ (∃ e, tileP (F := F) c 1 e) ∗ (∃ e, tileP (F := F) c 2 e)) : sProp 𝕄) := by
  rw [BI.bigSep_eq_bigSepL_of_eq [0, 1, 2] (by decide) (by decide)]; rfl

/-- The three-slot buffer at anything is its three slots at anything, -/
theorem slots_in (c : Dev nD) : iprop(∃ f, ((c : Thread nD τ).loc cc0_scratch0) ↦{fullShare} f) ⊢ (iprop((∃ e, tileP (F := F) c 0 e) ∗ (∃ e, tileP (F := F) c 1 e) ∗ (∃ e, tileP (F := F) c 2 e)) : sProp 𝕄) :=
  (Ring.pieces_split (U := Pipeline.UD sig nD τ) (ℓ := (c : Thread nD τ).loc cc0_scratch0) (q := fullShare) tileSet tileSet_disjoint tileSet_cover
    (fun g e => tileP (F := F) c g e) (fun g e => tileP_eq c g e)).trans (Entails.of_eq (slots_list c))
/-- and back. -/
theorem slots_out (c : Dev nD) : (iprop((∃ e, tileP (F := F) c 0 e) ∗ (∃ e, tileP (F := F) c 1 e) ∗ (∃ e, tileP (F := F) c 2 e)) : sProp 𝕄) ⊢ iprop(∃ f, ((c : Thread nD τ).loc cc0_scratch0) ↦{fullShare} f) := by
  rw [← slots_list]
  exact Ring.pieces_join (U := Pipeline.UD sig nD τ) (ℓ := (c : Thread nD τ).loc cc0_scratch0) (q := fullShare) tileSet tileSet_disjoint tileSet_cover
    (fun g e => tileP (F := F) c g e) (fun g e => tileP_eq c g e) (fun _ => Classical.arbitrary _)

/-- What the launch hands over, listed; `G` is the second result's contents. -/
theorem handed_eq (c : Dev nD) (G : (c : Dev nD) → (b : Ref sig .tc) → Buf (Elt F) ((c : Thread nD τ).loc b)) :
    (Pipeline.ΦDRG ownSem spec0 readOnly written (V m) G c : sProp 𝕄)
      = iprop((∃ f, ((c : Thread nD τ).loc cc0_scratch0) ↦{fullShare} f) ∗ (∃ r, prngReg c r) ∗ (cellP (F := F) c 0 ∗ cellP (F := F) c 1 ∗ cellP (F := F) c 2) ∗ emp ∗ (((c : Thread nD τ).loc main_v1_1) ↦{fullShare} G c main_v1_1)) := by
  rw [Pipeline.ΦDRG_eq, scopedRest0_eq, ownSems_eq]
  unfold Pipeline.routed written readOnly
  rw [BI.bigSep_empty, BI.bigSep_singleton]
  rfl

/-- What the launch hands over is the invariant before the first point. -/
theorem inv_in (c : Dev nD) : Pipeline.ΦDRG ownSem spec0 readOnly written (V m) (V m) c ⊢ (dats m 0 c).Φ 0 := by
  rw [handed_eq, show (dats m 0 c).Φ 0 = inv m c 0 from rfl]
  unfold inv ringNext
  rw [if_pos (by decide), ringAt_zero, frees_list]
  iintro ⟨HS, Hg, ⟨Hq0, Hq1, Hq2⟩, -, HO⟩
  isplitl [Hg]
  · iexact Hg
  isplitl [HO]
  · iapply (Ring.pieces_split (U := Pipeline.UD sig nD τ) (ℓ := (c : Thread nD τ).loc main_v1_1) (q := fullShare) pieceSet pieceSet_disjoint pieceSet_cover
      (fun u f => pieceP (F := F) c u f) (fun u f => pieceP_eq c u f))
    iexists _; iexact HO
  ihave HS' := (slots_in (F := F) c) $$ HS
  icases HS' with ⟨H0, H1, H2⟩
  isplitl [Hq0 H0]
  · isplitl [Hq0]
    · iexact Hq0
    iexact H0
  isplitl [Hq1 H1]
  · isplitl [Hq1]
    · iexact Hq1
    iexact H1
  isplitl [Hq2]
  · iexact Hq2
  iexact H2

/-- The invariant after the last point is what the launch takes back, with the second result assembled. -/
theorem inv_out (c : Dev nD) : (dats m 0 c).Φ (Fin.last cfg0.N) ⊢ Pipeline.ΦDRG ownSem spec0 readOnly written (V m) (final m) c := by
  rw [handed_eq, show (dats m 0 c).Φ (Fin.last cfg0.N) = inv m c grid0.N from rfl, final_written]
  unfold inv ringNext ringEnd
  rw [show grid0.N = 32 from N_0, if_neg (by decide), frees_list]
  iintro ⟨Hg, HB, ⟨Hq0, H0⟩, ⟨Hq1, H1⟩, ⟨Hq2, H2⟩⟩
  isplitl [H0 H1 H2]
  · iapply (slots_out (F := F) c)
    isplitl [H0]
    · iexact H0
    isplitl [H1]
    · iexact H1
    iexact H2
  isplitl [Hg]
  · iexact Hg
  isplitl [Hq0 Hq1 Hq2]
  · isplitl [Hq0]
    · iexact Hq0
    isplitl [Hq1]
    · iexact Hq1
    iexact Hq2
  isplitr
  · iempintro
  iapply (behind_join c (tiles m c))
  iexact HB

/-! ## The run -/

set_option backward.isDefEq.respectTransparency.types false in
/-- Every execution ends, with the counters at zero, the windows' arrays as the launch's data say, the second result assembled. -/
theorem run_main : θ_run defs (onTc (τ := τ) (main (F := F))) (s₀ m ρ) (fun r => Pipeline.FramePostRG cfgs (dats m) 0 written (V m) (final m) r ∧ r.2.sem = fun _ => 0) :=
  Pipeline.θ_run_frame_dmaRG (Q' := _) cfgs (dats m) (0 : Fin 1) launch0 ownSem defs₀ Variants.none ownSem_facts readOnly written readOnly_sub written_sub m ρ main
    (hbody := fun c => (body_obligation m c).loose) (hshare := fun c => (dats m 0 c).share_full fun _ => rfl)
    (howed := fun _ _ => rfl) (V := V m) (hmain := main_to_launch m Variants.none) (hA := A_eq m) (G := final m) (hin := inv_in m) (hout := inv_out m)

/-- The arguments end as they were and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1.toR c).1 0).trans (((dats m 0 c).arrAt_in 0 rfl _).trans ((A_eq m c 0).trans (V_main_arg0 m c))),
      ((h.1.toR c).1 2).trans (((dats m 0 c).arrAt_in 2 rfl _).trans ((A_eq m c 2).trans (V_main_arg1 m c)))⟩, h.2⟩) (run_main m ρ)

end Cert.KernelIdeal.Prod

end
-- ==== Proof.KernelIdeal.Values.lean ====
/-
  The kernel's two results over the extended reals, at an index: the first is a row of the first argument times the table, the
  second an element of the first argument times a row of the table.
-/
module

public import proofs.«01_k».proof.Proof.KernelIdeal.Launch
public import Idealize.ShloMosaic.Lib.Pipeline.ValueKit

@[expose] public section

set_option synthInstance.maxSize 4096
set_option maxRecDepth 16384

noncomputable section

namespace Cert.KernelIdeal.Prod

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-- The windows' blocks: the inputs' are their arrays, the output's are rows of sixteen. -/
theorem index_val : ∀ t : Fin cfg0.N, win0_0.index t = ![0, 0] ∧ win0_1.index t = ![0, 0] ∧ win0_2.index t = ![0, 0] ∧ win0_3.index t = ![t.val, 0] :=
  (by decide +kernel : ∀ t : Fin grid0.N, _)

/-- The first window's block is the first argument. -/
theorem in0_eq (c : Dev nD) : in0 m c pt0 = m ((c : Thread nD τ).loc main_arg0) := by
  blk_ext! [iblk, V, index_val pt0]

/-- The third window's block is the second argument. -/
theorem in2_eq (c : Dev nD) : in2 m c pt0 = m ((c : Thread nD τ).loc main_arg1) := by
  blk_ext! [iblk, V, index_val pt0]

/-- The middle input is ones. -/
theorem in1_at (c : Dev nD) (q : Fin 128) : in1 m c pt0 (ix2 0 q) = (1 : EReal) := by
  blk_simp [iblk, index_val pt0]
  entry_read
  exact Ideal.ofBits_one_bf16

/-- A block of the first result, at an index. -/
theorem block_at (x : Vec Ideal S512x1000 .f32) (e : Vec Ideal S1000x128 .f32) (u : Fin 32) (p : Fin 16) (q : Fin 128) :
    blockOf x e u (ix2 p q) = ∑ k : Fin 1000, (x (ix2 ⟨16 * u.val + p.val, by omega⟩ k) * e (ix2 k q) : EReal) := by
  pointwise [blockOf, k0_pay1, rows]

/-- A row of the second stretch at an index, when the spread factor is ones: the element is spread along the lanes unchanged. -/
theorem row_at (x : Vec Ideal S16x1000 .f32) (o : Vec Ideal S1x128 .bf16) (e : Vec Ideal S1000x128 .f32) (ho : ∀ q : Fin 128, o (ix2 0 q) = (1 : EReal))
    (r : ℕ) (hr : r < 8) (g : Fin 1000) (q : Fin 128) :
    rowPay e (k0_pay2 o) (k0_pay160 x) r hr (ix4 0 0 g q) = (x (ix2 ⟨8 + r, by omega⟩ g) * e (ix2 g q) : EReal) := by
  pointwise [rowPay, k0_pay2, k0_pay160]
  refine congrArg (fun a : EReal => a * e (ix2 g q)) ?_
  rw [Fin.sum_univ_one, ho, mul_one]

/-- A tile of the second result, at an index, when the middle input is ones. -/
theorem tile_at (x : Vec Ideal S512x1000 .f32) (o : Vec Ideal S1x128 .bf16) (e : Vec Ideal S1000x128 .f32) (ho : ∀ q : Fin 128, o (ix2 0 q) = (1 : EReal))
    (u : Fin 32) (p : Fin 16) (g : Fin 1000) (q : Fin 128) :
    tileOf x o e u (ix3 p g q) = (x (ix2 ⟨16 * u.val + p.val, by omega⟩ g) * e (ix2 g q) : EReal) := by
  by_cases h : p.val < 8
  · exact (dif_pos h).trans rfl
  · refine (dif_neg h).trans ((row_at (rows u x) o e ho (p.val - 8) _ g q).trans ?_)
    refine congrArg (fun i : Fin 512 => (x (ix2 i g) * e (ix2 g q) : EReal)) (Fin.ext ?_)
    show 16 * u.val + (8 + (p.val - 8)) = 16 * u.val + p.val
    omega

/-- The second result over the arguments, as an array. -/
def scaled (x : Vec Ideal S512x1000 .f32) (e : Vec Ideal S1000x128 .f32) : Vec Ideal S512x1000x128 .f32 := fun z =>
  (x (ix2 (z 0) (z 1)) * e (ix2 (z 1) (z 2)) : EReal)

/-- The tiles make the second result. -/
theorem gene_eq (c : Dev nD) : assembled (tiles m c) = scaled (m ((c : Thread nD τ).loc main_arg0)) (m ((c : Thread nD τ).loc main_arg1)) := by
  have h (x : Vec Ideal S512x1000 .f32) (o : Vec Ideal S1x128 .bf16) (e : Vec Ideal S1000x128 .f32) (ho : ∀ q : Fin 128, o (ix2 0 q) = (1 : EReal)) :
      assembled (tileOf x o e) = scaled x e := by
    funext z
    idx_vars z
    refine (tile_at x o e ho ⟨z0.val / 16, by omega⟩ ⟨z0.val % 16, by omega⟩ z1 z2).trans ?_
    refine congrArg (fun i : Fin 512 => (x (ix2 i z1) * e (ix2 z1 z2) : EReal)) (Fin.ext ?_)
    show 16 * (z0.val / 16) + z0.val % 16 = z0.val
    omega
  refine (h _ _ _ (in1_at m c)).trans ?_
  rw [in0_eq, in2_eq]

/-- The first result over the arguments, as an array. -/
def contracted (x : Vec Ideal S512x1000 .f32) (e : Vec Ideal S1000x128 .f32) : Vec Ideal S512x128 .f32 := fun z =>
  (∑ k : Fin 1000, (x (ix2 (z 0) k) * e (ix2 k (z 1)) : EReal) : EReal)

/-- A block of the first result is its rows of the whole. -/
theorem block_contracted (x : Vec Ideal S512x1000 .f32) (e : Vec Ideal S1000x128 .f32) (u : Fin 32) (y : S16x128.Idx) (z : S512x128.Idx)
    (h0 : (z 0).val = 16 * u.val + (y 0).val) (h1 : (z 1).val = (y 1).val) : blockOf x e u y = contracted x e z := by
  idx_vars y
  idx_vars z
  replace h0 : z0.val = 16 * u.val + y0.val := h0
  obtain rfl : z1 = y1 := Fin.ext h1
  refine (block_at x e u y0 z1).trans ?_
  have hz : (⟨16 * u.val + y0.val, by omega⟩ : Fin 512) = z0 := Fin.ext h0.symm
  rw [hz]
  rfl

/-- The blocks written back make the first result. -/
theorem feat_eq (c : Dev nD) : (dats m 0 c).arrAt 3 (cfgs 0).N = contracted (m ((c : Thread nD τ).loc main_arg0)) (m ((c : Thread nD τ).loc main_arg1)) := by
  refine (dats m 0 c).arrAt_eq_of_covers 3 _ (by decide +kernel) fun t _ y => ?_
  have ht : t.val < 32 := lt_of_lt_of_eq t.isLt N_0
  have hb : (Ring.bk 32 t.val).val = t.val := Nat.mod_eq_of_lt ht
  have hx := index_val t
  blk_simp
  rw [after_3]
  have h := block_contracted (in0 m c pt0) (in2 m c pt0) (Ring.bk 32 t.val) y ((win0_3.blk t).view.emb y)
    (by blk_simp [hx.2.2.2]; rw [hb]; exact congrArg (· + _) (Nat.mul_comm _ _)) (by blk_simp [hx.2.2.2])
  refine h.trans ?_
  rw [in0_eq, in2_eq]

/-- The run over the extended reals: both results over the arguments, and the arguments as they were. -/
theorem run : θ_run defs (onTc (τ := τ) (main (F := Ideal))) ⟨m, fun _ => 0, ρ⟩ (fun r => ∀ c : Dev nD,
    r.2.mem ((c.tc : Thread nD τ).loc main_v1_0) = contracted (m ((c.tc : Thread nD τ).loc main_arg0)) (m ((c.tc : Thread nD τ).loc main_arg1))
    ∧ r.2.mem ((c.tc : Thread nD τ).loc main_v1_1) = scaled (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  refine (θ_run defs _ _).mono (fun r h c => ⟨?_, ?_, (h.2.1 c).1, (h.2.1 c).2⟩) (θ_run_and (run_main m ρ) (frame m ρ))
  · exact ((h.1.1.toR c).1 3).trans (feat_eq m c)
  · exact (h.1.1.written c (Finset.mem_singleton_self _)).trans ((final_written m c).trans (gene_eq m c))

end Cert.KernelIdeal.Prod

end
-- ==== Proof.ReferenceIdeal.Values.lean ====
/-
  The reference's two results as functions of its arguments. The row numbers it takes are the numbers 0 … 999 in order and all
  lie in the table, so what it takes is the table; the rest is one contraction and one product.
-/
module

public import proofs.«01_k».proof.Proof.Gen.ReferenceIdeal
public import Idealize.ShloMosaic.Lib.Claim
public import Idealize.ShloMosaic.Lib.ReduceAll
public import Idealize.ShloMosaic.Lib.ValueLayout
public import Idealize.ShloMosaic.Lib.Pointwise

@[expose] public section

set_option synthInstance.maxSize 4096
set_option maxRecDepth 16384

noncomputable section

namespace Cert.ReferenceIdeal.Prod

open Idealize.ShloMosaic Idealize.ShloMosaic.TcCoe Idealize.SL.Sem
open Cert.ReferenceIdeal Cert.ReferenceIdeal.Gen

/-- The row numbers taken, as the program computes them: a negative one would be counted from the end. -/
def ids : IVec S1000x1 32 :=
  broadcastInDim S1000x1 ![0] bcast_S1000_S1000x1_0
    (select (cmpi .slt (iotaInDim S1000 32 0) (broadcastInDim S1000 ![] bcast_S_S1000 (constantI S_ 32 0#32)))
      (addi (iotaInDim S1000 32 0) (broadcastInDim S1000 ![] bcast_S_S1000 (constantI S_ 32 1000#32))) (iotaInDim S1000 32 0))

/-- Whether each row number lies in the table. -/
def inside : IVec S1000 1 :=
  Host.reduce IntOp.andi
    (andi (cmpi .sge ids (broadcastInDim S1000x1 ![] bcast_S_S1000x1 (constantI S_ 32 0#32)))
      (cmpi .sle ids (broadcastInDim S1000x1 ![0, 1] bcast_S1x1_S1000x1_0_1 (broadcastInDim S1x1 ![1] bcast_S1_S1x1_1 (constantI S1 32 999#32)))))
    (constantI S_ 1 1#1) reducesTo_S1000x1_S1000_d1 h_S_

/-- The rows taken: the table's row, or a fixed word where the row number lies outside. -/
def taken (e : FVec Ideal S1000x128 .f32) : FVec Ideal S1000x128 .f32 :=
  select (broadcastInDim S1000x128 ![0] bcast_S1000_S1000x128_0 inside)
    (Host.gather gather_S1000x128_S1000x1_S1000x128_1_0_n_n_0_1_1128 e ids)
    (broadcastInDim S1000x128 ![] bcast_S_S1000x128 (constant S_ .f32 0x7FC00000#32))

/-- Row number `g` is `g`. -/
theorem ids_at (g : Fin 1000) (z : Fin 1) : ids (ix2 g z) = BitVec.ofNat 32 g.val := by
  pointwise [ids]
  revert g
  decide +kernel

/-- Every row number lies in the table. -/
theorem inside_at (g : Fin 1000) : inside (ix1 g) = 1#1 := by
  unfold inside
  refine Host.reduce_andi_one _ _ _ _ _ rfl fun i => ?_
  idx_vars i
  pointwise
  rw [ids_at]
  revert i0
  decide +kernel

/-- Row number `g` clamped into the table is `g`. -/
theorem clamp_id : ∀ g : Fin 1000, min (BitVec.ofNat 32 g.val).toInt.toNat (1000 - 1) + 0 + 0 = g.val := by decide +kernel

/-- Taking row `g` reads row `g`. -/
theorem gather_at (e : FVec Ideal S1000x128 .f32) (g : Fin 1000) (q : Fin 128) :
    Host.gather gather_S1000x128_S1000x1_S1000x128_1_0_n_n_0_1_1128 e ids (ix2 g q) = e (ix2 g q) := by
  have hid := ids_at g 0
  refine congrArg e (funext fun a => Fin.ext ?_)
  match a with
  | 0 =>
    show GatherDims.start _ _ _ _ + GatherDims.batchCoord _ _ _ + GatherDims.offCoord _ _ _ = g.val
    rw [GatherDims.batchCoord_eq_zero _ _ _ (by decide), GatherDims.offCoord_eq_zero _ _ _ (by decide)]
    unfold GatherDims.start
    rw [dif_pos (by decide)]
    have hx : ∀ c, gather_S1000x128_S1000x1_S1000x128_1_0_n_n_0_1_1128.siIdx (ix2 g q) c = ix2 g 0 := fun c => funext fun b => by
      match b with
      | 0 => rfl
      | 1 => exact Fin.ext (by have : c.val < 1 := c.isLt; show c.val = 0; omega)
    rw [hx, hid]
    exact clamp_id g
  | 1 =>
    show GatherDims.start _ _ _ _ + GatherDims.batchCoord _ _ _ + GatherDims.offCoord _ _ _ = q.val
    rw [GatherDims.batchCoord_eq_zero _ _ _ (by decide)]
    unfold GatherDims.start GatherDims.offCoord
    rw [dif_neg (by decide), dif_pos (by decide)]
    simp only [Nat.zero_add]
    rfl

/-- What is taken is the table. -/
theorem taken_eq (e : FVec Ideal S1000x128 .f32) : taken e = e := by
  funext y
  idx_vars y
  pointwise [taken]
  rw [inside_at, gather_at]
  rfl

/-- The first result. -/
def product (x : FVec Ideal S512x1000 .f32) (e : FVec Ideal S1000x128 .f32) : FVec Ideal S512x128 .f32 :=
  Host.dotGeneral dot_S512x1000_S1000x128_S512x128_1_0_0_1_n_n none x e

/-- The second result. -/
def scaled (x : FVec Ideal S512x1000 .f32) (e : FVec Ideal S1000x128 .f32) : FVec Ideal S512x1000x128 .f32 :=
  mulf (broadcastInDim S512x1000x128 ![0, 1, 2] bcast_S512x1000x1_S512x1000x128_0_1_2 (broadcastInDim S512x1000x1 ![0, 1] bcast_S512x1000_S512x1000x1_0_1 x))
    (broadcastInDim S512x1000x128 ![0, 1, 2] bcast_S1x1000x128_S512x1000x128_0_1_2 (broadcastInDim S1x1000x128 ![1, 2] bcast_S1000x128_S1x1000x128_1_2 e))

/-- The first result at an index: a sum of 1000 products. -/
theorem product_at (x : FVec Ideal S512x1000 .f32) (e : FVec Ideal S1000x128 .f32) (p : Fin 512) (q : Fin 128) :
    product x e (ix2 p q) = ∑ k : Fin 1000, x (ix2 p k) * e (ix2 k q) := by
  pointwise [product]

/-- The second result at an index: one product. -/
theorem scaled_at (x : FVec Ideal S512x1000 .f32) (e : FVec Ideal S1000x128 .f32) (p : Fin 512) (g : Fin 1000) (q : Fin 128) :
    scaled x e (ix3 p g q) = x (ix2 p g) * e (ix2 g q) := by
  pointwise [scaled]

variable (m : (ℓ : Loc nD τ sig) → Buf (Elt Ideal) ℓ) (ρ : Dev nD → PrngReg)

set_option maxHeartbeats 1600000 in
/-- The run: both results, and the arguments as they were. -/
theorem run : θ_run defs (onTc (τ := τ) (main (F := Ideal))) ⟨m, fun _ => 0, ρ⟩ (fun r => ∀ c : Dev nD,
    r.2.mem ((c.tc : Thread nD τ).loc main_v2) = product (m ((c.tc : Thread nD τ).loc main_arg0)) (m ((c.tc : Thread nD τ).loc main_arg1))
    ∧ r.2.mem ((c.tc : Thread nD τ).loc main_v7) = scaled (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  hlo_run
  · simp only [StableHlo.TRef.ofBuf_toBuf]
    refine Eq.trans (b := product (m ((c.tc : Thread nD τ).loc main_arg0)) (taken (m ((c.tc : Thread nD τ).loc main_arg1)))) rfl ?_
    rw [taken_eq]
  · simp only [StableHlo.TRef.ofBuf_toBuf]
    refine Eq.trans (b := scaled (m ((c.tc : Thread nD τ).loc main_arg0)) (taken (m ((c.tc : Thread nD τ).loc main_arg1)))) rfl ?_
    rw [taken_eq]

end Cert.ReferenceIdeal.Prod

end
-- ==== Proof.lean ====
module

public import proofs.«01_k».proof.Defs
public import proofs.«01_k».proof.Proof.Kernel.Launch
public import proofs.«01_k».proof.Proof.KernelIdeal.Values
public import proofs.«01_k».proof.Proof.ReferenceIdeal.Values
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The reference ends with its arguments as they were and every counter at zero. -/
theorem reference_frame : Cert.quiescent_ReferenceIdeal := by
  intro m g _
  exact (θ_run Cert.ReferenceIdeal.defs _ _).mono
    (fun r h => ⟨fun c => ⟨(h c).2.2.1, (h c).2.2.2⟩, Idealize.ShloMosaic.sem_eq_zero_of_no_sems (by decide) r.2⟩)
    (Cert.ReferenceIdeal.Prod.run m g)

/-- The contraction is the same sum on both sides. -/
theorem contracted_eq (x : FVec Ideal Cert.KernelIdeal.S512x1000 .f32) (e : FVec Ideal Cert.KernelIdeal.S1000x128 .f32) :
    Cert.ReferenceIdeal.Prod.product x e = Cert.KernelIdeal.Prod.contracted x e := by
  funext z
  idx_vars z
  exact Cert.ReferenceIdeal.Prod.product_at x e z0 z1

/-- The products are the same on both sides. -/
theorem scaled_eq (x : FVec Ideal Cert.KernelIdeal.S512x1000 .f32) (e : FVec Ideal Cert.KernelIdeal.S1000x128 .f32) :
    Cert.ReferenceIdeal.Prod.scaled x e = Cert.KernelIdeal.Prod.scaled x e := by
  funext z
  idx_vars z
  exact Cert.ReferenceIdeal.Prod.scaled_at x e z0 z1 z2

/-- Both ideal programs run and end with equal results. -/
theorem results_equal : Cert.algebraic_KernelIdeal_ReferenceIdeal := by
  intro m g m' g' _ hagree
  refine ⟨fun c => Cert.KernelIdeal.Prod.contracted (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.KernelIdeal.Prod.scaled (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdeal.Prod.run m g, ?_⟩
  refine (θ_run Cert.ReferenceIdeal.defs _ _).mono (fun r h c => ⟨(h c).1.trans ?_, (h c).2.1.trans ?_, (h c).2.2.1, (h c).2.2.2⟩) (Cert.ReferenceIdeal.Prod.run m' g')
  · rw [(hagree c).1, (hagree c).2]; exact contracted_eq _ _
  · rw [(hagree c).1, (hagree c).2]; exact scaled_eq _ _

/-- Everything claimed. -/
theorem claim : Cert.Claim :=
  ⟨Cert.Kernel.Gen.facts, Cert.KernelIdeal.Gen.facts, Cert.ReferenceIdeal.Gen.facts,
    fun m g _ => Cert.Kernel.Prod.frame m g, fun m g _ => Cert.KernelIdeal.Prod.frame m g, reference_frame, trivial, results_equal⟩

end Cert.Proof

end
